-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x16 : Shape := ⟨2, ![1024, 16]⟩
abbrev S100000x16 : Shape := ⟨2, ![100000, 16]⟩
abbrev S100000 : Shape := ⟨1, ![100000]⟩
abbrev S16 : Shape := ⟨1, ![16]⟩
abbrev S_ : Shape := ⟨0, ![]⟩

class Facts : Prop where
  bcast_S_S1024x16 : S_.BroadcastsInDim S1024x16 (![] : Fin 0 → Fin S1024x16.rank)
  bcast_S_S100000x16 : S_.BroadcastsInDim S100000x16 (![] : Fin 0 → Fin S100000x16.rank)
  bcast_S_S100000 : S_.BroadcastsInDim S100000 (![] : Fin 0 → Fin S100000.rank)
  bcast_S_S16 : S_.BroadcastsInDim S16 (![] : Fin 0 → Fin S16.rank)

variable [Facts]

def fn {F : FTy → Type} [FloatOps F] (main_arg0 : FVec F S1024x16 .f32) (main_arg1 : FVec F S100000x16 .f32) (main_arg2 : IVec S100000 32) (main_arg3 : FVec F S16 .f32) (main_arg4 : FVec F S16 .f32) : IVec S1024x16 1 × IVec S1024x16 1 × IVec S100000x16 1 × IVec S100000x16 1 × IVec S100000 1 × IVec S100000 1 × IVec S16 1 :=
  let main_cst : FVec F S_ .f32 := constant S_ .f32 0x48A2C2A0#32
  let main_v0 : FVec F S1024x16 .f32 := broadcastInDim S1024x16 ![] bcast_S_S1024x16 main_cst
  let main_v1 : IVec S1024x16 1 := cmpf .ole main_arg0 main_v0
  let main_cst_0 : FVec F S_ .f32 := constant S_ .f32 0xC8A2C2A0#32
  let main_v2 : FVec F S1024x16 .f32 := broadcastInDim S1024x16 ![] bcast_S_S1024x16 main_cst_0
  let main_v3 : IVec S1024x16 1 := cmpf .oge main_arg0 main_v2
  let main_cst_1 : FVec F S_ .f32 := constant S_ .f32 0x48A2C2A0#32
  let main_v4 : FVec F S100000x16 .f32 := broadcastInDim S100000x16 ![] bcast_S_S100000x16 main_cst_1
  let main_v5 : IVec S100000x16 1 := cmpf .ole main_arg1 main_v4
  let main_cst_2 : FVec F S_ .f32 := constant S_ .f32 0xC8A2C2A0#32
  let main_v6 : FVec F S100000x16 .f32 := broadcastInDim S100000x16 ![] bcast_S_S100000x16 main_cst_2
  let main_v7 : IVec S100000x16 1 := cmpf .oge main_arg1 main_v6
  let main_c : IVec S_ 32 := constantI S_ 32 0#32
  let main_v8 : IVec S100000 32 := broadcastInDim S100000 ![] bcast_S_S100000 main_c
  let main_v9 : IVec S100000 1 := cmpi .sge main_arg2 main_v8
  let main_c_3 : IVec S_ 32 := constantI S_ 32 16#32
  let main_v10 : IVec S100000 32 := broadcastInDim S100000 ![] bcast_S_S100000 main_c_3
  let main_v11 : IVec S100000 1 := cmpi .slt main_arg2 main_v10
  let main_cst_4 : FVec F S_ .f32 := constant S_ .f32 0x00000000#32
  let main_v12 : FVec F S16 .f32 := broadcastInDim S16 ![] bcast_S_S16 main_cst_4
  let main_v13 : IVec S16 1 := cmpf .une main_arg4 main_v12
  (main_v1, main_v3, main_v5, main_v7, main_v9, main_v11, main_v13)
-- ==== Kernel.lean ====
abbrev S1024x16 : Shape := ⟨2, ![1024, 16]⟩
abbrev S100000x16 : Shape := ⟨2, ![100000, 16]⟩
abbrev S100000 : Shape := ⟨1, ![100000]⟩
abbrev S16 : Shape := ⟨1, ![16]⟩
abbrev S16x100000 : Shape := ⟨2, ![16, 100000]⟩
abbrev S_ : Shape := ⟨0, ![]⟩
abbrev S16x100352 : Shape := ⟨2, ![16, 100352]⟩
abbrev S100352 : Shape := ⟨1, ![100352]⟩
abbrev S98x1x1024 : Shape := ⟨3, ![98, 1, 1024]⟩
abbrev S1x16 : Shape := ⟨2, ![1, 16]⟩
abbrev S16x1 : Shape := ⟨2, ![16, 1]⟩
abbrev S1024x10 : Shape := ⟨2, ![1024, 10]⟩
abbrev S16x1024 : Shape := ⟨2, ![16, 1024]⟩
abbrev S1x1x1024 : Shape := ⟨3, ![1, 1, 1024]⟩
abbrev S1024x8 : Shape := ⟨2, ![1024, 8]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1024x5 : Shape := ⟨2, ![1024, 5]⟩
abbrev S1024x3 : Shape := ⟨2, ![1024, 3]⟩

abbrev nBuf : Space → Nat
  | .hbm => 23
  | .vmem => 12
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S100000, .i32⟩
  | .hbm, ⟨3, _⟩ => ⟨S16, .f32⟩
  | .hbm, ⟨4, _⟩ => ⟨S16, .f32⟩
  | .hbm, ⟨5, _⟩ => ⟨S16x100000, .f32⟩
  | .hbm, ⟨6, _⟩ => ⟨S_, .f32⟩
  | .hbm, ⟨7, _⟩ => ⟨S_, .f32⟩
  | .hbm, ⟨8, _⟩ => ⟨S16x100352, .f32⟩
  | .hbm, ⟨9, _⟩ => ⟨S_, .i32⟩
  | .hbm, ⟨10, _⟩ => ⟨S_, .i32⟩
  | .hbm, ⟨11, _⟩ => ⟨S100352, .i32⟩
  | .hbm, ⟨12, _⟩ => ⟨S100352, .i32⟩
  | .hbm, ⟨13, _⟩ => ⟨S_, .i32⟩
  | .hbm, ⟨14, _⟩ => ⟨S100352, .i32⟩
  | .hbm, ⟨15, _⟩ => ⟨S100352, .i32⟩
  | .hbm, ⟨16, _⟩ => ⟨S100352, .i32⟩
  | .hbm, ⟨17, _⟩ => ⟨S98x1x1024, .i32⟩
  | .hbm, ⟨18, _⟩ => ⟨S1x16, .f32⟩
  | .hbm, ⟨19, _⟩ => ⟨S1x16, .f32⟩
  | .hbm, ⟨20, _⟩ => ⟨S16x1, .f32⟩
  | .hbm, ⟨21, _⟩ => ⟨S16x1, .f32⟩
  | .hbm, ⟨22, _⟩ => ⟨S1024x10, .f32⟩
  | .local _ .vmem, ⟨0, _⟩ => ⟨S1024x16, .f32⟩
  | .local _ .vmem, ⟨1, _⟩ => ⟨S16x1024, .f32⟩
  | .local _ .vmem, ⟨2, _⟩ => ⟨S16x1024, .f32⟩
  | .local _ .vmem, ⟨3, _⟩ => ⟨S1x1x1024, .i32⟩
  | .local _ .vmem, ⟨4, _⟩ => ⟨S1x1x1024, .i32⟩
  | .local _ .vmem, ⟨5, _⟩ => ⟨S1x16, .f32⟩
  | .local _ .vmem, ⟨6, _⟩ => ⟨S1x16, .f32⟩
  | .local _ .vmem, ⟨7, _⟩ => ⟨S16x1, .f32⟩
  | .local _ .vmem, ⟨8, _⟩ => ⟨S16x1, .f32⟩
  | .local _ .vmem, ⟨9, _⟩ => ⟨S1024x10, .f32⟩
  | .local _ .vmem, ⟨10, _⟩ => ⟨S1024x8, .f32⟩
  | .local _ .vmem, ⟨11, _⟩ => ⟨S1024x8, .i32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_call0_v0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![98], ![false]⟩

def k0_cond2 (i : grid0.Coords) : BitVec 1 :=
  let arg0 : BitVec 32 := BitVec.ofNat 32 (i 0).val
  let c97_i32 : BitVec 32 := 97#32
  let v165 : BitVec 1 := Scalar.cmpi .eq arg0 c97_i32
  let v166 : BitVec 32 := Scalar.extui v165
  let c0_i32_65 : BitVec 32 := 0#32
  let v167 : BitVec 1 := Scalar.cmpi .ne v166 c0_i32_65
  v167

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1024x16 : Shape := ⟨2, ![1024, 16]⟩
abbrev S100000x16 : Shape := ⟨2, ![100000, 16]⟩
abbrev S100000 : Shape := ⟨1, ![100000]⟩
abbrev S16 : Shape := ⟨1, ![16]⟩
abbrev S1x16 : Shape := ⟨2, ![1, 16]⟩
abbrev S_ : Shape := ⟨0, ![]⟩
abbrev S1024 : Shape := ⟨1, ![1024]⟩
abbrev S1024x1 : Shape := ⟨2, ![1024, 1]⟩
abbrev S16x100000 : Shape := ⟨2, ![16, 100000]⟩
abbrev S1024x100000 : Shape := ⟨2, ![1024, 100000]⟩
abbrev S1x100000 : Shape := ⟨2, ![1, 100000]⟩
abbrev S1024x5 : Shape := ⟨2, ![1024, 5]⟩
abbrev S1024x5x1 : Shape := ⟨3, ![1024, 5, 1]⟩
abbrev S1 : Shape := ⟨1, ![1]⟩
abbrev S1x1x1 : Shape := ⟨3, ![1, 1, 1]⟩
abbrev S1x1x10 : Shape := ⟨3, ![1, 1, 10]⟩
abbrev S1024x5x10 : Shape := ⟨3, ![1024, 5, 10]⟩
abbrev S1024x10 : Shape := ⟨2, ![1024, 10]⟩

abbrev nBuf : Space → Nat
  | .hbm => 70
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S100000, .i32⟩
  | .hbm, ⟨3, _⟩ => ⟨S16, .f32⟩
  | .hbm, ⟨4, _⟩ => ⟨S16, .f32⟩
  | .hbm, ⟨5, _⟩ => ⟨S1x16, .f32⟩
  | .hbm, ⟨6, _⟩ => ⟨S1024x16, .f32⟩
  | .hbm, ⟨7, _⟩ => ⟨S1024x16, .f32⟩
  | .hbm, ⟨8, _⟩ => ⟨S1x16, .f32⟩
  | .hbm, ⟨9, _⟩ => ⟨S1024x16, .f32⟩
  | .hbm, ⟨10, _⟩ => ⟨S1024x16, .f32⟩
  | .hbm, ⟨11, _⟩ => ⟨S1x16, .f32⟩
  | .hbm, ⟨12, _⟩ => ⟨S100000x16, .f32⟩
  | .hbm, ⟨13, _⟩ => ⟨S100000x16, .f32⟩
  | .hbm, ⟨14, _⟩ => ⟨S1x16, .f32⟩
  | .hbm, ⟨15, _⟩ => ⟨S100000x16, .f32⟩
  | .hbm, ⟨16, _⟩ => ⟨S100000x16, .f32⟩
  | .hbm, ⟨17, _⟩ => ⟨S1024x16, .f32⟩
  | .hbm, ⟨18, _⟩ => ⟨S_, .f32⟩
  | .hbm, ⟨19, _⟩ => ⟨S1024, .f32⟩
  | .hbm, ⟨20, _⟩ => ⟨S1024x1, .f32⟩
  | .hbm, ⟨21, _⟩ => ⟨S100000x16, .f32⟩
  | .hbm, ⟨22, _⟩ => ⟨S_, .f32⟩
  | .hbm, ⟨23, _⟩ => ⟨S100000, .f32⟩
  | .hbm, ⟨24, _⟩ => ⟨S16x100000, .f32⟩
  | .hbm, ⟨25, _⟩ => ⟨S1024x100000, .f32⟩
  | .hbm, ⟨26, _⟩ => ⟨S_, .f32⟩
  | .hbm, ⟨27, _⟩ => ⟨S1024x100000, .f32⟩
  | .hbm, ⟨28, _⟩ => ⟨S1024x100000, .f32⟩
  | .hbm, ⟨29, _⟩ => ⟨S1024x100000, .f32⟩
  | .hbm, ⟨30, _⟩ => ⟨S1024x100000, .f32⟩
  | .hbm, ⟨31, _⟩ => ⟨S1x100000, .f32⟩
  | .hbm, ⟨32, _⟩ => ⟨S1024x100000, .f32⟩
  | .hbm, ⟨33, _⟩ => ⟨S1024x100000, .f32⟩
  | .hbm, ⟨34, _⟩ => ⟨S1024x100000, .f32⟩
  | .hbm, ⟨35, _⟩ => ⟨S1024x5, .f32⟩
  | .hbm, ⟨36, _⟩ => ⟨S1024x5, .i32⟩
  | .hbm, ⟨37, _⟩ => ⟨S_, .i32⟩
  | .hbm, ⟨38, _⟩ => ⟨S1024x5, .i32⟩
  | .hbm, ⟨39, _⟩ => ⟨S1024x5, .i1⟩
  | .hbm, ⟨40, _⟩ => ⟨S_, .i32⟩
  | .hbm, ⟨41, _⟩ => ⟨S1024x5, .i32⟩
  | .hbm, ⟨42, _⟩ => ⟨S1024x5, .i32⟩
  | .hbm, ⟨43, _⟩ => ⟨S1024x5, .i32⟩
  | .hbm, ⟨44, _⟩ => ⟨S1024x5x1, .i32⟩
  | .hbm, ⟨45, _⟩ => ⟨S1, .i32⟩
  | .hbm, ⟨46, _⟩ => ⟨S_, .i32⟩
  | .hbm, ⟨47, _⟩ => ⟨S1024x5x1, .i32⟩
  | .hbm, ⟨48, _⟩ => ⟨S1024x5x1, .i1⟩
  | .hbm, ⟨49, _⟩ => ⟨S1x1x1, .i32⟩
  | .hbm, ⟨50, _⟩ => ⟨S1024x5x1, .i32⟩
  | .hbm, ⟨51, _⟩ => ⟨S1024x5x1, .i1⟩
  | .hbm, ⟨52, _⟩ => ⟨S1024x5x1, .i1⟩
  | .hbm, ⟨53, _⟩ => ⟨S_, .i1⟩
  | .hbm, ⟨54, _⟩ => ⟨S1024x5, .i1⟩
  | .hbm, ⟨55, _⟩ => ⟨S1024x5, .i32⟩
  | .hbm, ⟨56, _⟩ => ⟨S_, .i32⟩
  | .hbm, ⟨57, _⟩ => ⟨S1024x5, .i32⟩
  | .hbm, ⟨58, _⟩ => ⟨S1024x5, .i32⟩
  | .hbm, ⟨59, _⟩ => ⟨S1024x5x1, .i32⟩
  | .hbm, ⟨60, _⟩ => ⟨S1x1x10, .i32⟩
  | .hbm, ⟨61, _⟩ => ⟨S1024x5x10, .i32⟩
  | .hbm, ⟨62, _⟩ => ⟨S1024x5x10, .i32⟩
  | .hbm, ⟨63, _⟩ => ⟨S1024x5x10, .i1⟩
  | .hbm, ⟨64, _⟩ => ⟨S1024x5x10, .f32⟩
  | .hbm, ⟨65, _⟩ => ⟨S_, .f32⟩
  | .hbm, ⟨66, _⟩ => ⟨S1024x10, .f32⟩
  | .hbm, ⟨67, _⟩ => ⟨S_, .f32⟩
  | .hbm, ⟨68, _⟩ => ⟨S1024x10, .f32⟩
  | .hbm, ⟨69, _⟩ => ⟨S1024x10, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_values : Ref sig .tc := ⟨.hbm, 35, rfl⟩
abbrev main_indices : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_c_4 : Ref sig .tc := ⟨.hbm, 56, rfl⟩
abbrev main_call0_v14 : Ref sig .tc := ⟨.hbm, 57, rfl⟩
abbrev main_v27 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v28 : Ref sig .tc := ⟨.hbm, 64, rfl⟩
abbrev main_cst_2 : Ref sig .tc := ⟨.hbm, 65, rfl⟩
abbrev main_v29 : Ref sig .tc := ⟨.hbm, 66, rfl⟩
abbrev main_cst_3 : Ref sig .tc := ⟨.hbm, 67, rfl⟩
abbrev main_v30 : Ref sig .tc := ⟨.hbm, 68, rfl⟩
abbrev main_v31 : Ref sig .tc := ⟨.hbm, 69, rfl⟩

abbrev nD : Nat := 1
abbrev τ : Topo := Topo.v7x

variable {F : FTy → Type} [FloatOps F]
-- ==== Proof.Select.lean ====
/- Choosing the least entries of a finite family by repeated rounds: "the least value, the least word among the entries
   that hold it, those entries set to +∞". The rounds pick, one after the other, the entries that come first in the order
   (value, word); this module says so, and that two families of first entries are the same set. Mathematics only. -/
module

public import Idealize.ShloMosaic.PureOps.Ideal
public import Idealize.ShloMosaic.PureOps.Reduce
public import Mathlib.Data.Prod.Lex

@[expose] public section

noncomputable section

namespace Cert.Knn

open Idealize.ShloMosaic

/-- The order of the candidates: by value, then by the word read as a signed integer. -/
abbrev Key : Type := Lex (EReal × ℤ)

/-- The key of a candidate with value `v` and word `p`. -/
def key (v : EReal) (p : BitVec 32) : Key := toLex (v, p.toInt)

/-- The least value of a family, +∞ of an empty one. -/
def leastValue {ι : Type} [Fintype ι] (v : ι → EReal) : EReal := Finset.univ.fold min ⊤ v

/-- The least of a family of words, as signed integers. -/
def leastWord {ι : Type} [Fintype ι] (g : ι → BitVec 32) : BitVec 32 := Finset.univ.fold IntOp.minsi 2147483647#32 g

/-- The word a round picks: the least word among the entries that hold the least value. -/
def pick {ι : Type} [Fintype ι] (v : ι → EReal) (p : ι → BitVec 32) : BitVec 32 :=
  leastWord fun i => if v i = leastValue v then p i else 1073741824#32

/-- The values after a round: the entries of the picked word set to +∞. -/
def drop {ι : Type} [Fintype ι] (v : ι → EReal) (p : ι → BitVec 32) : ι → EReal :=
  fun i => if p i = pick v p then ⊤ else v i

/-- The values after `n` rounds. -/
def rest {ι : Type} [Fintype ι] (v : ι → EReal) (p : ι → BitVec 32) : ℕ → ι → EReal
  | 0 => v
  | n + 1 => drop (rest v p n) p

/-- A minimum that is attained at `i` is the entry at `i`. -/
theorem leastValue_eq {ι : Type} [Fintype ι] (v : ι → EReal) (i : ι) (h : ∀ j, v i ≤ v j) : leastValue v = v i := by
  unfold leastValue
  refine le_antisymm ?_ ?_
  · exact (Finset.fold_min_le (v i)).2 (Or.inr ⟨i, Finset.mem_univ i, le_refl _⟩)
  · exact (Finset.le_fold_min (v i)).2 ⟨le_top, fun j _ => h j⟩

/-- The signed value of the lesser of two words. -/
theorem toInt_minsi (x y : BitVec 32) : (IntOp.minsi x y).toInt = min x.toInt y.toInt := by
  unfold IntOp.minsi
  by_cases h : x.slt y = true
  · rw [if_pos h]; rw [BitVec.slt_iff_toInt_lt] at h; omega
  · rw [if_neg h]; rw [BitVec.slt_iff_toInt_lt] at h; omega

/-- The least word of a family in which the entry at `i` is least is that entry. -/
theorem leastWord_eq {ι : Type} [Fintype ι] (g : ι → BitVec 32) (i : ι) (h : ∀ j, (g i).toInt ≤ (g j).toInt) :
    leastWord g = g i := by
  classical
  unfold leastWord
  have key : ∀ s : Finset ι, (s.fold IntOp.minsi 2147483647#32 g).toInt = s.fold min 2147483647 fun j => (g j).toInt := by
    intro s
    induction s using Finset.induction_on with
    | empty => simp
    | insert a s ha ih => rw [Finset.fold_insert ha, Finset.fold_insert ha, toInt_minsi, ih]
  apply BitVec.eq_of_toInt_eq
  rw [key]
  refine le_antisymm ?_ ?_
  · exact (Finset.fold_min_le _).2 (Or.inr ⟨i, Finset.mem_univ i, le_refl _⟩)
  · exact (Finset.le_fold_min _).2 ⟨by have := BitVec.toInt_lt (x := g i); norm_num at this; omega, fun j _ => h j⟩

/-- ONE ROUND picks the first live entry: where the entry at `i` is live (below +∞), comes before every other live entry
    and shares its word with none, the least value is its value, the picked word is its word, and the round sets exactly
    this entry to +∞. -/
theorem round_eq {ι : Type} [Fintype ι] [DecidableEq ι] (v : ι → EReal) (p : ι → BitVec 32) (i : ι) (hi : v i < ⊤)
    (hp : (p i).toInt ≤ 1073741824) (hinj : ∀ j, v j < ⊤ → p j = p i → j = i)
    (h : ∀ j, v j < ⊤ → j ≠ i → key (v i) (p i) < key (v j) (p j)) :
    leastValue v = v i ∧ pick v p = p i ∧ drop v p = Function.update v i ⊤ := by
  have hv : leastValue v = v i := by
    apply leastValue_eq
    intro j
    by_cases hj : v j < ⊤
    · by_cases e : j = i
      · rw [e]
      · have := h j hj e
        rw [key, key, Prod.Lex.toLex_lt_toLex] at this
        rcases this with h1 | h1
        · exact h1.le
        · exact h1.1.le
    · exact le_of_lt (lt_of_lt_of_le hi (not_lt.1 hj))
  have hpk : pick v p = p i := by
    unfold pick
    rw [leastWord_eq _ i]
    · rw [if_pos hv.symm]
    · intro j
      rw [if_pos hv.symm]
      split
      · next hj =>
        rw [hv] at hj
        by_cases e : j = i
        · rw [e]
        · have := h j (hj ▸ hi) e
          rw [key, key, Prod.Lex.toLex_lt_toLex] at this
          rcases this with h1 | h1
          · exact absurd hj (ne_of_gt h1)
          · exact h1.2.le
      · have e : (1073741824#32).toInt = 1073741824 := by decide
        rw [e]; exact hp
  refine ⟨hv, hpk, ?_⟩
  funext j
  unfold drop
  rw [hpk]
  by_cases e : j = i
  · subst e; simp
  · rw [Function.update_of_ne e]
    split
    · next hj =>
      by_cases hl : v j < ⊤
      · exact absurd (hinj j hl hj) e
      · exact (not_lt_top_iff.1 hl).symm
    · rfl

/-- `n` ROUNDS pick the `n` first live entries, one after the other: there are pairwise different live entries
    `s 0, …, s (n-1)` whose values and words the rounds return, every other live entry comes after each of them, and the
    rounds have set exactly these entries to +∞. -/
theorem rounds_eq {ι : Type} [Fintype ι] [DecidableEq ι] [Nonempty ι] (v : ι → EReal) (p : ι → BitVec 32)
    (hp : ∀ j, v j < ⊤ → (p j).toInt ≤ 1073741824) (hinj : ∀ i j, v i < ⊤ → v j < ⊤ → p i = p j → i = j) (n : ℕ)
    (hn : n ≤ (Finset.univ.filter fun j => v j < ⊤).card) :
    ∃ s : ℕ → ι, (∀ t < n, ∀ u < n, s t = s u → t = u) ∧ (∀ t < n, v (s t) < ⊤)
      ∧ (∀ t < n, leastValue (rest v p t) = v (s t) ∧ pick (rest v p t) p = p (s t))
      ∧ (∀ j, v j < ⊤ → (∀ t < n, j ≠ s t) → ∀ t < n, key (v (s t)) (p (s t)) < key (v j) (p j))
      ∧ (∀ j, (∃ t < n, j = s t) → rest v p n j = ⊤) ∧ (∀ j, (∀ t < n, j ≠ s t) → rest v p n j = v j) := by
  induction n with
  | zero =>
    obtain ⟨a⟩ := ‹Nonempty ι›
    exact ⟨fun _ => a, by simp, by simp, by simp, by simp, by simp, by simp [rest]⟩
  | succ n ih =>
    obtain ⟨s, h1, h2, h3, h4, h5, h6⟩ := ih (by omega)
    have hlive : ∃ j, v j < ⊤ ∧ ∀ t < n, j ≠ s t := by
      by_contra hc
      push Not at hc
      have hsub : (Finset.univ.filter fun j => v j < ⊤) ⊆ (Finset.range n).image s := by
        intro j hj
        obtain ⟨t, ht, e⟩ := hc j (Finset.mem_filter.1 hj).2
        exact Finset.mem_image.2 ⟨t, Finset.mem_range.2 ht, e.symm⟩
      have := (Finset.card_le_card hsub).trans Finset.card_image_le
      rw [Finset.card_range] at this
      omega
    have hne : (Finset.univ.filter fun j => v j < ⊤ ∧ ∀ t < n, j ≠ s t).Nonempty := by
      obtain ⟨j, hj⟩ := hlive
      exact ⟨j, Finset.mem_filter.2 ⟨Finset.mem_univ j, hj⟩⟩
    obtain ⟨i, hi, hmin⟩ := Finset.exists_min_image _ (fun j => key (v j) (p j)) hne
    obtain ⟨-, hi1, hi2⟩ := Finset.mem_filter.1 hi
    have hlt : ∀ j, v j < ⊤ → (∀ t < n, j ≠ s t) → j ≠ i → key (v i) (p i) < key (v j) (p j) := by
      intro j hj hjs hji
      refine lt_of_le_of_ne (hmin j (Finset.mem_filter.2 ⟨Finset.mem_univ j, hj, hjs⟩)) fun e => hji ?_
      have e' := congrArg (fun k : Key => (ofLex k).2) e
      exact (hinj i j hi1 hj (BitVec.eq_of_toInt_eq e')).symm
    have hr : ∀ j, rest v p n j < ⊤ → v j < ⊤ ∧ ∀ t < n, j ≠ s t := by
      intro j hj
      have hjs : ∀ t < n, j ≠ s t := by
        intro t ht e
        rw [h5 j ⟨t, ht, e⟩] at hj
        exact lt_irrefl _ hj
      rw [h6 j hjs] at hj
      exact ⟨hj, hjs⟩
    have hri : rest v p n i = v i := h6 i hi2
    obtain ⟨r1, r2, r3⟩ := round_eq (rest v p n) p i (hri ▸ hi1) (hp i hi1)
      (fun j hj e => hinj j i (hr j hj).1 hi1 e)
      (fun j hj hji => by
        rw [hri, h6 j (hr j hj).2]
        exact hlt j (hr j hj).1 (hr j hj).2 hji)
    refine ⟨Function.update s n i, ?_, ?_, ?_, ?_, ?_, ?_⟩
    · intro t ht u hu e
      rcases Nat.lt_succ_iff_lt_or_eq.1 ht with ht' | rfl <;> rcases Nat.lt_succ_iff_lt_or_eq.1 hu with hu' | rfl
      · rw [Function.update_of_ne (by omega), Function.update_of_ne (by omega)] at e
        exact h1 t ht' u hu' e
      · rw [Function.update_of_ne (by omega), Function.update_self] at e
        exact absurd e.symm (hi2 t ht')
      · rw [Function.update_of_ne (a := u) (by omega), Function.update_self] at e
        exact absurd e (hi2 u hu')
      · rfl
    · intro t ht
      rcases Nat.lt_succ_iff_lt_or_eq.1 ht with ht' | rfl
      · rw [Function.update_of_ne (by omega)]; exact h2 t ht'
      · rw [Function.update_self]; exact hi1
    · intro t ht
      rcases Nat.lt_succ_iff_lt_or_eq.1 ht with ht' | rfl
      · rw [Function.update_of_ne (by omega)]; exact h3 t ht'
      · rw [Function.update_self]; exact ⟨r1.trans hri, r2⟩
    · intro j hj hjs t ht
      have hjs' : ∀ t < n, j ≠ s t := fun t ht => by
        have := hjs t (by omega)
        rwa [Function.update_of_ne (by omega)] at this
      rcases Nat.lt_succ_iff_lt_or_eq.1 ht with ht' | rfl
      · rw [Function.update_of_ne (by omega)]; exact h4 j hj hjs' t ht'
      · rw [Function.update_self]
        refine hlt j hj hjs' ?_
        have := hjs t (by omega)
        rwa [Function.update_self] at this
    · rintro j ⟨t, ht, e⟩
      show drop (rest v p n) p j = ⊤
      rw [r3]
      rcases Nat.lt_succ_iff_lt_or_eq.1 ht with ht' | rfl
      · rw [Function.update_of_ne (by omega)] at e
        by_cases hji : j = i
        · rw [hji, Function.update_self]
        · rw [Function.update_of_ne hji]; exact h5 j ⟨t, ht', e⟩
      · rw [Function.update_self] at e
        rw [e, Function.update_self]
    · intro j hjs
      show drop (rest v p n) p j = v j
      have hjs' : ∀ t < n, j ≠ s t := fun t ht => by
        have := hjs t (by omega)
        rwa [Function.update_of_ne (by omega)] at this
      have hji : j ≠ i := by
        have := hjs n (by omega)
        rwa [Function.update_self] at this
      rw [r3, Function.update_of_ne hji]
      exact h6 j hjs'

/-- `f` names the five first of the positions below `N`, in the order of `K`: five different positions, before every
    other. -/
def First5 {κ : Type} [LT κ] (K : ℕ → κ) (N : ℕ) (f : Fin 5 → ℕ) : Prop :=
  Function.Injective f ∧ (∀ t, f t < N) ∧ ∀ j < N, (∀ t, j ≠ f t) → ∀ t, K (f t) < K j

/-- Of two lists of five different things, where the second has one that the first lacks, the first has one that the
    second lacks. -/
theorem exists_missing {ι : Type} (a u : Fin 5 → ι) (ha : Function.Injective a) (t : Fin 5) (hu : Function.Injective u)
    (h : ∀ r, u t ≠ a r) : ∃ r, ∀ w, a r ≠ u w := by
  classical
  by_contra hc
  push Not at hc
  have hsub : Finset.univ.image a ⊆ Finset.univ.image u := by
    intro x hx
    obtain ⟨r, -, rfl⟩ := Finset.mem_image.1 hx
    obtain ⟨w, hw⟩ := hc r
    exact Finset.mem_image.2 ⟨w, Finset.mem_univ w, hw.symm⟩
  have hcard : (Finset.univ.image u).card ≤ (Finset.univ.image a).card := by
    rw [Finset.card_image_of_injective _ ha, Finset.card_image_of_injective _ hu]
  have heq := Finset.eq_of_subset_of_card_le hsub hcard
  have : u t ∈ Finset.univ.image a := heq ▸ Finset.mem_image_of_mem u (Finset.mem_univ t)
  obtain ⟨r, -, e⟩ := Finset.mem_image.1 this
  exact h r e.symm

/-- The five first are one set: two lists of the five first have the same entries. -/
theorem First5.image_eq {κ : Type} [Preorder κ] {K : ℕ → κ} {N : ℕ} {f g : Fin 5 → ℕ} (hf : First5 K N f)
    (hg : First5 K N g) : Finset.univ.image f = Finset.univ.image g := by
  have half : ∀ {f g : Fin 5 → ℕ}, First5 K N f → First5 K N g → ∀ t, ∃ r, f t = g r := by
    intro f g hf hg t
    by_contra hc
    push Not at hc
    obtain ⟨r, hr⟩ := exists_missing g f hg.1 t hf.1 hc
    exact lt_asymm (hf.2.2 (g r) (hg.2.1 r) hr t) (hg.2.2 (f t) (hf.2.1 t) hc r)
  ext x
  simp only [Finset.mem_image, Finset.mem_univ, true_and]
  constructor
  · rintro ⟨t, rfl⟩
    obtain ⟨r, hr⟩ := half hf hg t
    exact ⟨r, hr.symm⟩
  · rintro ⟨t, rfl⟩
    obtain ⟨r, hr⟩ := half hg hf t
    exact ⟨r, hr.symm⟩

/-- A sum over the five first does not depend on the list that names them. -/
theorem First5.sum_eq {κ : Type} [Preorder κ] {K : ℕ → κ} {N : ℕ} {f g : Fin 5 → ℕ} (hf : First5 K N f)
    (hg : First5 K N g) (φ : ℕ → EReal) : ∑ t, φ (f t) = ∑ t, φ (g t) := by
  rw [← Finset.sum_image (s := Finset.univ) (g := f) (f := φ) (fun a _ b _ h => hf.1 h),
    ← Finset.sum_image (s := Finset.univ) (g := g) (f := φ) (fun a _ b _ h => hg.1 h), hf.image_eq hg]

/-- THE MERGE. Ten candidates: value `v i` and word `p i`, the live ones naming pairwise different positions `h i` below
    `N`, whose keys they hold; and every position below `N` that no live candidate names comes after five live
    candidates. Then five rounds over the candidates give the five first of the positions below `N`. -/
theorem merge_eq {ι : Type} [Fintype ι] [DecidableEq ι] [Nonempty ι] (D : ℕ → EReal) (P : ℕ → BitVec 32) (N : ℕ)
    (hP : ∀ j < N, (P j).toInt ≤ 1073741824) (hPinj : ∀ i < N, ∀ j < N, P i = P j → i = j)
    (v : ι → EReal) (p : ι → BitVec 32) (h : ι → ℕ)
    (hN : ∀ i, v i < ⊤ → h i < N) (hv : ∀ i, v i < ⊤ → v i = D (h i)) (hp : ∀ i, v i < ⊤ → p i = P (h i))
    (hinj : ∀ i j, v i < ⊤ → v j < ⊤ → h i = h j → i = j) (hc : 5 ≤ (Finset.univ.filter fun j => v j < ⊤).card)
    (hcov : ∀ j < N, (∀ i, v i < ⊤ → j ≠ h i) → ∃ a : Fin 5 → ι, Function.Injective a ∧ (∀ t, v (a t) < ⊤)
      ∧ ∀ t, key (D (h (a t))) (P (h (a t))) < key (D j) (P j)) :
    ∃ f : Fin 5 → ℕ, First5 (fun j => key (D j) (P j)) N f
      ∧ ∀ t : Fin 5, leastValue (rest v p t) = D (f t) ∧ pick (rest v p t) p = P (f t) := by
  have hpinj : ∀ i j, v i < ⊤ → v j < ⊤ → p i = p j → i = j := by
    intro i j hi hj e
    rw [hp i hi, hp j hj] at e
    exact hinj i j hi hj (hPinj _ (hN i hi) _ (hN j hj) e)
  obtain ⟨s, h1, h2, h3, h4, -, -⟩ := rounds_eq v p (fun j hj => by rw [hp j hj]; exact hP _ (hN j hj)) hpinj 5 hc
  have key_eq : ∀ i, v i < ⊤ → key (v i) (p i) = key (D (h i)) (P (h i)) := by
    intro i hi; rw [← hv i hi, hp i hi]
  refine ⟨fun t => h (s t), ⟨?_, ?_, ?_⟩, ?_⟩
  · intro t u e
    exact Fin.ext (h1 t t.2 u u.2 (hinj _ _ (h2 t t.2) (h2 u u.2) e))
  · exact fun t => hN _ (h2 t t.2)
  · intro j hj hjs t
    by_cases hjh : ∃ i, v i < ⊤ ∧ j = h i
    · obtain ⟨i, hi, rfl⟩ := hjh
      have := h4 i hi (fun t ht e => hjs ⟨t, ht⟩ (by rw [e])) t t.2
      rwa [key_eq _ (h2 t t.2), key_eq i hi] at this
    · push Not at hjh
      obtain ⟨a, ha1, ha2, ha3⟩ := hcov j hj (fun i hi => hjh i hi)
      by_cases hta : ∃ r, s t = a r
      · obtain ⟨r, hr⟩ := hta
        show key (D (h (s t))) (P (h (s t))) < _
        rw [hr]; exact ha3 r
      · push Not at hta
        obtain ⟨r, hr⟩ := exists_missing a (fun w : Fin 5 => s w) ha1 t
          (fun x y e => Fin.ext (h1 x x.2 y y.2 e)) hta
        have := h4 (a r) (ha2 r) (fun w hw => hr ⟨w, hw⟩) t t.2
        rw [key_eq _ (h2 t t.2), key_eq _ (ha2 r)] at this
        exact this.trans (ha3 r)
  · intro t
    obtain ⟨e1, e2⟩ := h3 t t.2
    exact ⟨e1.trans (hv _ (h2 t t.2)), e2.trans (hp _ (h2 t t.2))⟩

end Cert.Knn

end
-- ==== Proof.TopK.lean ====
/- The five greatest entries of a row, as the host's top-k gives their positions: the positions of the five first in the
   order "greater value, then lower position". -/
module

public import proofs.«01_k».proof.Proof.Select
public import Idealize.ShloMosaic.Lib.SortFacts
public import Idealize.ShloMosaic.Lib.ValueIdx
public import Idealize.ShloMosaic.Lib.Pipeline.Value
public import Idealize.ShloMosaic.Lib.Pointwise.Index
public import Idealize.ShloMosaic.PureOps.Ideal.Laws

@[expose] public section

noncomputable section

namespace Cert.Knn

open Idealize.ShloMosaic

/-- The order of the reference's positions: by value, then by position. -/
def posKey {n : ℕ} (G : Fin n → EReal) (a : Fin n) : Lex (EReal × ℕ) := toLex (G a, a.val)

/-- Inserting a position that precedes every entry of a list in order leaves the list in order. -/
theorem insert_in_order {n : ℕ} (G : Fin n → EReal) (a : Fin n) (l : List (Fin n)) (ha : ∀ b ∈ l, a < b)
    (hl : l.Pairwise fun b c => posKey G b < posKey G c) :
    (insertBefore (fun b c => decide (G b < G c)) a l).Pairwise fun b c => posKey G b < posKey G c := by
  induction l with
  | nil => exact List.pairwise_singleton _ _
  | cons b l ih =>
    obtain ⟨hb, hl'⟩ := List.pairwise_cons.1 hl
    unfold insertBefore
    by_cases h : G b < G a
    · rw [if_pos (by simpa using h)]
      refine List.pairwise_cons.2 ⟨fun c hc => ?_, ih (fun c hc => ha c (List.mem_cons_of_mem _ hc)) hl'⟩
      rcases List.mem_cons.1 ((perm_insertBefore _ a l).mem_iff.1 hc) with rfl | hc'
      · exact Prod.Lex.toLex_lt_toLex.2 (Or.inl h)
      · exact hb c hc'
    · rw [if_neg (by simpa using h)]
      have hab : posKey G a < posKey G b := by
        have hp : a.val < b.val := ha b List.mem_cons_self
        rcases lt_or_eq_of_le (not_lt.1 h) with h1 | h1
        · exact Prod.Lex.toLex_lt_toLex.2 (Or.inl h1)
        · exact Prod.Lex.toLex_lt_toLex.2 (Or.inr ⟨h1, hp⟩)
      refine List.pairwise_cons.2 ⟨fun c hc => ?_, hl⟩
      rcases List.mem_cons.1 hc with rfl | hc'
      · exact hab
      · exact hab.trans (hb c hc')

/-- The stable sort of a list of increasing positions is in the order of `posKey`. -/
theorem sort_in_order {n : ℕ} (G : Fin n → EReal) (l : List (Fin n)) (hl : l.Pairwise (· < ·)) :
    (stableSort (fun b c => decide (G b < G c)) l).Pairwise fun b c => posKey G b < posKey G c := by
  induction l with
  | nil => exact List.Pairwise.nil
  | cons a l ih =>
    obtain ⟨ha, hl'⟩ := List.pairwise_cons.1 hl
    unfold stableSort
    exact insert_in_order G a _ (fun b hb => ha b ((perm_stableSort _ l).mem_iff.1 hb)) (ih hl')

/-- An earlier place of the sorted row holds an earlier position in the order of `posKey`. -/
theorem sortedFrom_in_order {n : ℕ} (G : Fin n → EReal) (i j : Fin n) (hij : i < j) :
    posKey G (sortedFrom (fun b c => decide (G b < G c)) i) < posKey G (sortedFrom (fun b c => decide (G b < G c)) j) := by
  have h := List.pairwise_iff_get.1 (sort_in_order G (List.finRange n) (List.pairwise_lt_finRange n))
  unfold sortedFrom
  exact h _ _ (Fin.lt_def.2 (Fin.lt_def.1 hij))

/-- THE FIVE FIRST, BY THE SORT: the positions at the first five places of the sorted row are the five first of all the
    positions, in any order `K` of the naturals that on positions of the row is that of `posKey`. -/
theorem first5_sorted {κ : Type} [LT κ] {n : ℕ} (hn : 5 ≤ n) (G : Fin n → EReal) (K : ℕ → κ)
    (hK : ∀ a b : Fin n, posKey G a < posKey G b → K a.val < K b.val) :
    First5 K n fun t => (sortedFrom (fun b c => decide (G b < G c)) (t.castLE hn)).val := by
  refine ⟨fun t u e => ?_, fun t => Fin.isLt _, fun j hj hjs t => ?_⟩
  · have := sortedFrom_injective _ (Fin.ext e)
    exact Fin.castLE_injective hn this
  · obtain ⟨i, hi⟩ := sortedFrom_surjective (fun b c => decide (G b < G c)) ⟨j, hj⟩
    have hti : t.castLE hn < i := by
      by_contra hc
      have hi5 : i.val < 5 := by
        have : i.val ≤ t.val := by simpa [Fin.lt_def] using hc
        omega
      exact hjs ⟨i.val, hi5⟩ (by
        have : (⟨i.val, hi5⟩ : Fin 5).castLE hn = i := rfl
        show j = (sortedFrom _ _).val
        rw [this, hi])
    have := hK _ _ (sortedFrom_in_order G _ _ hti)
    rwa [hi] at this

/-- "Greater" of the extended reals' order, as the host's top-k asks for it. -/
theorem gt_eq_one (a b : EReal) : (FloatOps.cmpfTotal (F := Ideal) (φ := .f32) .gt a b == 1#1) = decide (b < a) := by
  rw [Ideal.cmpfTotal_def]
  show (BitVec.ofBool (decide (b < a)) == 1#1) = decide (b < a)
  cases decide (b < a) <;> rfl

/-- A position of row `q`, moved along the row to `c`. -/
theorem along_row {m n : ℕ} (q : Fin m) (b c : Fin n) : (ix2 q b : (⟨2, ![m, n]⟩ : Shape).Idx).along 1 c = ix2 q c := by
  funext a
  match a with
  | 0 => rfl
  | 1 => rfl

/-- The second result of the stable sort of a row with its positions, read at one place. -/
theorem sort2_iota_apply {m n : ℕ} (x : FVec Ideal ⟨2, ![m, n]⟩ .f32) (y : IVec ⟨2, ![m, n]⟩ 32) (q : Fin m) (b : Fin n) :
    (Host.sort2 ⟨2, ![m, n]⟩ 1 (fun l r => FloatOps.cmpfTotal (F := Ideal) (φ := .f32) .gt l.1 r.1) x y).2 (ix2 q b)
      = y (ix2 q (sortedFrom (fun k c : Fin n => decide (x (ix2 q c) < x (ix2 q k))) b)) := by
  unfold Host.sort2
  rw [dif_pos (by decide : 1 < 2)]
  dsimp only
  simp only [gt_eq_one]
  show y ((ix2 q b : (⟨2, ![m, n]⟩ : Shape).Idx).along 1 (sortedFrom (fun k c : Fin n =>
    decide (x ((ix2 q b : (⟨2, ![m, n]⟩ : Shape).Idx).along 1 c) < x ((ix2 q b : (⟨2, ![m, n]⟩ : Shape).Idx).along 1 k))) b)) = _
  simp only [along_row]
  exact congrArg y (along_row q b _)

/-- The positions that the host's top-k of a row returns, as words. -/
theorem topK_apply {m n k : ℕ} (hk : k ≤ n) (x : FVec Ideal ⟨2, ![m, n]⟩ .f32)
    (h : (⟨2, ![m, n]⟩ : Shape).Slices (fun _ => 0) ⟨2, ![m, k]⟩) (q : Fin m) (t : Fin k) :
    (Host.topK ⟨2, ![m, k]⟩ 1 (FloatOps.cmpfTotal .gt) x h).2 (ix2 q t)
      = BitVec.ofNat 32 (sortedFrom (fun b c : Fin n => decide (x (ix2 q c) < x (ix2 q b))) (t.castLE hk)).val := by
  unfold Host.topK
  dsimp only
  refine (extractStridedSlice_apply (fun _ => 0) _ h (ix2 q t) (ix2 q (t.castLE hk)) fun a => ?_).trans ?_
  · match a with
    | 0 => exact (Nat.zero_add _).symm
    | 1 => exact (Nat.zero_add _).symm
  · rw [sort2_iota_apply, dif_pos (by decide : 1 < 2)]
    rfl

end Cert.Knn

end
-- ==== Proof.Dist.lean ====
/- The squared distance of two standardized points of sixteen features, in the grouping both programs use, over the
   extended reals: it is never `+∞`, and no row of the training set is farther than the padding row. -/
module

public import Idealize.ShloMosaic.PureOps.Ideal.Laws

@[expose] public section

noncomputable section

namespace Cert.Knn

open Idealize.ShloMosaic

/-- One feature, standardized: less the mean, over the deviation. -/
def std (a μ σ : EReal) : EReal := Ideal.div (a - μ) σ

/-- The squared distance of the standardized points `a` and `b`, by the three sums
    (squares of the one, less twice the products, plus squares of the other). -/
def dist (a b μ σ : Fin 16 → EReal) : EReal :=
  (∑ d, std (a d) (μ d) (σ d) * std (a d) (μ d) (σ d)
      - ((2 : ℝ) : EReal) * ∑ d, std (a d) (μ d) (σ d) * std (b d) (μ d) (σ d))
    + ∑ d, std (b d) (μ d) (σ d) * std (b d) (μ d) (σ d)

/-- A quotient by a nonzero extended real is a product with a real number. -/
theorem div_eq_mul_real (σ : EReal) (h : σ ≠ 0) : ∃ r : ℝ, ∀ y : EReal, Ideal.div y σ = y * (r : EReal) := by
  induction σ with
  | bot => exact ⟨0, fun y => by rw [Ideal.div, if_neg h, EReal.inv_bot]; rfl⟩
  | top => exact ⟨0, fun y => by rw [Ideal.div, if_neg h, EReal.inv_top]; rfl⟩
  | coe s => exact ⟨s⁻¹, fun y => by rw [Ideal.div, if_neg h, EReal.coe_inv]⟩

/-- A standardized feature of a real value: real, and affine in the value; or infinite, and the same for every value. -/
theorem std_cases (μ σ : EReal) (h : σ ≠ 0) :
    (∃ m r : ℝ, ∀ a : ℝ, std a μ σ = (((a - m) * r : ℝ) : EReal)) ∨ (∀ a : ℝ, std a μ σ = ⊤) ∨ (∀ a : ℝ, std a μ σ = ⊥) := by
  obtain ⟨r, hr⟩ := div_eq_mul_real σ h
  unfold std
  simp only [hr]
  induction μ with
  | coe m => exact Or.inl ⟨m, r, fun a => by rw [← EReal.coe_sub, ← EReal.coe_mul]⟩
  | bot =>
    rcases lt_trichotomy r 0 with h0 | h0 | h0
    · exact Or.inr (Or.inr fun a => by rw [EReal.coe_sub_bot, EReal.top_mul_coe_of_neg h0])
    · exact Or.inl ⟨0, 0, fun a => by simp [h0]⟩
    · exact Or.inr (Or.inl fun a => by rw [EReal.coe_sub_bot, EReal.top_mul_coe_of_pos h0])
  | top =>
    rcases lt_trichotomy r 0 with h0 | h0 | h0
    · exact Or.inr (Or.inl fun a => by rw [EReal.sub_top, EReal.bot_mul_coe_of_neg h0])
    · exact Or.inl ⟨0, 0, fun a => by simp [h0]⟩
    · exact Or.inr (Or.inr fun a => by rw [EReal.sub_top, EReal.bot_mul_coe_of_pos h0])

/-- A sum with a term `+∞` and no term `-∞` is `+∞`. -/
theorem sum_eq_top (f : Fin 16 → EReal) (hb : ∀ d, f d ≠ ⊥) (d : Fin 16) (hd : f d = ⊤) : ∑ d, f d = ⊤ := by
  have hs : ∀ s : Finset (Fin 16), ∑ d ∈ s, f d ≠ ⊥ := by
    intro s
    induction s using Finset.induction_on with
    | empty => simp
    | insert a s ha ih =>
      rw [Finset.sum_insert ha]
      intro e
      rcases EReal.add_eq_bot_iff.1 e with e | e
      · exact hb _ e
      · exact ih e
  rw [← Finset.add_sum_erase _ _ (Finset.mem_univ d), hd, EReal.top_add_of_ne_bot (hs _)]

/-- The distance of two real points: `-∞` when some feature standardizes to an infinity, whatever the points; otherwise
    the sum of the squares of the weighted differences. -/
theorem dist_cases (μ σ : Fin 16 → EReal) (hσ : ∀ d, σ d ≠ 0) :
    (∀ a b : Fin 16 → ℝ, dist (fun d => a d) (fun d => b d) μ σ = ⊥)
      ∨ ∃ r : Fin 16 → ℝ, ∀ a b : Fin 16 → ℝ,
          dist (fun d => a d) (fun d => b d) μ σ = ((∑ d, ((a d - b d) * r d) ^ 2 : ℝ) : EReal) := by
  by_cases hinf : ∃ d, (∀ a : ℝ, std a (μ d) (σ d) = ⊤) ∨ (∀ a : ℝ, std a (μ d) (σ d) = ⊥)
  · left
    intro a b
    obtain ⟨d, hd⟩ := hinf
    have hne : ∀ (a b : Fin 16 → ℝ) e, std (a e) (μ e) (σ e) * std (b e) (μ e) (σ e) ≠ ⊥ := by
      intro a b e
      rcases std_cases (μ e) (σ e) (hσ e) with ⟨m, r, h⟩ | h | h
      · rw [h, h, ← EReal.coe_mul]; exact EReal.coe_ne_bot _
      · rw [h, h]; simp
      · rw [h, h]; simp
    have htop : ∀ a b : Fin 16 → ℝ, std (a d) (μ d) (σ d) * std (b d) (μ d) (σ d) = ⊤ := by
      intro a b
      rcases hd with h | h
      · rw [h, h]; simp
      · rw [h, h]; simp
    have hsum : ∀ a b : Fin 16 → ℝ, ∑ d, std (a d) (μ d) (σ d) * std (b d) (μ d) (σ d) = ⊤ := fun a b =>
      sum_eq_top _ (hne a b) d (htop a b)
    unfold dist
    rw [hsum a a, hsum a b, EReal.coe_mul_top_of_pos (by norm_num), EReal.sub_top, EReal.bot_add]
  · right
    have hr : ∀ d, ∃ m r : ℝ, ∀ a : ℝ, std a (μ d) (σ d) = (((a - m) * r : ℝ) : EReal) := by
      intro d
      rcases std_cases (μ d) (σ d) (hσ d) with h | h
      · exact h
      · exact absurd ⟨d, h⟩ hinf
    choose m r h using hr
    refine ⟨r, fun a b => ?_⟩
    have hcoe : ∀ f : Fin 16 → ℝ, ∑ d, (f d : EReal) = ((∑ d, f d : ℝ) : EReal) := fun f =>
      (map_sum (⟨⟨fun x : ℝ => (x : EReal), rfl⟩, EReal.coe_add⟩ : ℝ →+ EReal) f Finset.univ).symm
    unfold dist
    simp only [h, ← EReal.coe_mul]
    rw [hcoe, hcoe, hcoe, ← EReal.coe_mul, ← EReal.coe_sub, ← EReal.coe_add]
    congr 1
    rw [Finset.mul_sum, ← Finset.sum_sub_distrib, ← Finset.sum_add_distrib]
    exact Finset.sum_congr rfl fun d _ => by ring

/-- The distance of two real points is below `+∞`. -/
theorem dist_lt_top (μ σ : Fin 16 → EReal) (hσ : ∀ d, σ d ≠ 0) (a b : Fin 16 → ℝ) :
    dist (fun d => a d) (fun d => b d) μ σ < ⊤ := by
  rcases dist_cases μ σ hσ with h | ⟨r, h⟩
  · rw [h]; exact bot_lt_top
  · rw [h]; exact EReal.coe_lt_top _

/-- A point whose features lie within 333333 of zero is no farther from another such point than from the point whose
    every feature is 1000000. -/
theorem dist_le_pad (μ σ : Fin 16 → EReal) (hσ : ∀ d, σ d ≠ 0) (a b : Fin 16 → ℝ)
    (ha : ∀ d, -333333 ≤ a d ∧ a d ≤ 333333) (hb : ∀ d, -333333 ≤ b d ∧ b d ≤ 333333) :
    dist (fun d => a d) (fun d => b d) μ σ ≤ dist (fun d => a d) (fun _ => ((1000000 : ℝ) : EReal)) μ σ := by
  rcases dist_cases μ σ hσ with h | ⟨r, h⟩
  · rw [h]; exact bot_le
  · rw [h, h a fun _ => 1000000]
    refine EReal.coe_le_coe_iff.2 (Finset.sum_le_sum fun d _ => ?_)
    rw [mul_pow, mul_pow]
    refine mul_le_mul_of_nonneg_right ?_ (sq_nonneg _)
    obtain ⟨ha0, ha1⟩ := ha d
    obtain ⟨hb0, hb1⟩ := hb d
    nlinarith [mul_nonneg (by linarith : (0 : ℝ) ≤ 1000000 - b d) (by linarith : (0 : ℝ) ≤ 1000000 + b d - 2 * a d)]

end Cert.Knn

end
-- ==== Proof.Vote.lean ====
/- The vote: how often a class occurs among five labels, over five; and the constants and words both programs share. -/
module

public import Idealize.ShloMosaic.PureOps.Ideal.Laws

@[expose] public section

noncomputable section

namespace Cert.Knn

open Idealize.ShloMosaic

/-- The binary32 word of zero, as an extended real. -/
theorem word_zero : FloatOps.ofBits (F := Ideal) .f32 0x00000000#32 = 0 := by
  show Ideal.ofBits .f32 0x00000000#32 = 0
  simp [Ideal.ofBits, Ideal.ieee, -EReal.coe_mul]

/-- The binary32 word of two. -/
theorem word_two : FloatOps.ofBits (F := Ideal) .f32 0x40000000#32 = ((2 : ℝ) : EReal) := by
  show Ideal.ofBits .f32 0x40000000#32 = _
  simp [Ideal.ofBits, Ideal.ieee, -EReal.coe_mul]; norm_num

/-- The binary32 word of five. -/
theorem word_five : FloatOps.ofBits (F := Ideal) .f32 0x40A00000#32 = ((5 : ℝ) : EReal) := by
  show Ideal.ofBits .f32 0x40A00000#32 = _
  simp [Ideal.ofBits, Ideal.ieee, -EReal.coe_mul]; norm_num

/-- One vote: 1 where the label is the class, else 0. -/
def vote (l : BitVec 32) (c : ℕ) : EReal := if l = BitVec.ofNat 32 c then 1 else 0

/-- One vote, as the reference counts it: the bit "label is class", as a real number. -/
theorem vote_word (l : BitVec 32) (c : ℕ) :
    FloatOps.uitofp (F := Ideal) .f32 (IntOp.cmpi .eq l (BitVec.ofNat 32 c)) = vote l c := by
  show (((BitVec.ofBool (l == BitVec.ofNat 32 c)).toNat : ℝ) : EReal) = vote l c
  unfold vote
  by_cases h : l = BitVec.ofNat 32 c
  · rw [if_pos h, h]; simp
  · rw [if_neg h, beq_false_of_ne h]; simp

/-- The share of the votes of five labels that the class `c` has. -/
def share (l : Fin 5 → BitVec 32) (c : ℕ) : EReal := Ideal.div (∑ t, vote (l t) c) ((5 : ℝ) : EReal)

/-- A natural below 2^31, as a 32-bit word read signed. -/
theorem toInt_word (n : ℕ) (h : n < 2147483648) : (BitVec.ofNat 32 n).toInt = n := by
  rw [BitVec.toInt_eq_toNat_of_lt] <;> rw [BitVec.toNat_ofNat] <;> omega

/-- A natural below 2^31 is not negative as a word. -/
theorem not_slt_zero (n : ℕ) (h : n < 2147483648) : (BitVec.ofNat 32 n).slt 0#32 = false := by
  rw [BitVec.slt, toInt_word n h, decide_eq_false_iff_not]
  simp

end Cert.Knn

end
-- ==== Proof.RefRead.lean ====
/- The reference, read at an index: the distance of a query from a training row, the positions of the five nearest rows,
   their labels, and the shares of the votes. -/
module

public import proofs.«01_k».proof.Proof.Gen.ReferenceIdeal.Read
public import proofs.«01_k».proof.Proof.TopK
public import proofs.«01_k».proof.Proof.Dist
public import proofs.«01_k».proof.Proof.Vote
public import Idealize.ShloMosaic.Lib.ValueIdxCore
public import Idealize.ShloMosaic.Lib.ReduceAll

@[expose] public section

set_option maxRecDepth 16384

noncomputable section

namespace Cert.ReferenceIdeal.Knn

open Idealize.ShloMosaic Cert.Knn Cert.ReferenceIdeal Cert.ReferenceIdeal.Read

variable (x0 : (⟨S1024x16, .f32⟩ : BufTy).Contents (Elt Ideal)) (x1 : (⟨S100000x16, .f32⟩ : BufTy).Contents (Elt Ideal))
  (x2 : (⟨S100000, .i32⟩ : BufTy).Contents (Elt Ideal)) (x3 x4 : (⟨S16, .f32⟩ : BufTy).Contents (Elt Ideal))

/-- The distance of query `q` from training row `j`. -/
def rowDist (q : Fin 1024) (j : Fin 100000) : EReal :=
  dist (fun d => x0 (ix2 q d)) (fun d => x1 (ix2 j d)) (fun d => x3 (ix1 d)) (fun d => x4 (ix1 d))

/-- The position of the `t`-th nearest training row of query `q`. -/
def nearest (q : Fin 1024) (t : Fin 5) : Fin 100000 :=
  sortedFrom (fun b c => decide (rowDist x0 x1 x3 x4 q b < rowDist x0 x1 x3 x4 q c)) (t.castLE (by decide))

/-- A standardized query feature. -/
theorem query_apply (q : Fin 1024) (d : Fin 16) :
    val_main_v5 (F := Ideal) x0 x3 x4 (ix2 q d) = std (x0 (ix2 q d)) (x3 (ix1 d)) (x4 (ix1 d)) := by
  rw [val_main_v5_apply, val_main_v2_apply, val_main_v1_apply, val_main_v0_apply, val_main_v4_apply, val_main_v3_apply]
  exact congrArg₂ Ideal.div (congrArg₂ HSub.hSub rfl (congrArg x3 (Idealize.ShloMosaic.eq_ix1 _))) (congrArg x4 (Idealize.ShloMosaic.eq_ix1 _))

/-- A standardized feature of a training row. -/
theorem key_apply (j : Fin 100000) (d : Fin 16) :
    val_main_v11 (F := Ideal) x1 x3 x4 (ix2 j d) = std (x1 (ix2 j d)) (x3 (ix1 d)) (x4 (ix1 d)) := by
  rw [val_main_v11_apply, val_main_v8_apply, val_main_v7_apply, val_main_v6_apply, val_main_v10_apply, val_main_v9_apply]
  exact congrArg₂ Ideal.div (congrArg₂ HSub.hSub rfl (congrArg x3 (Idealize.ShloMosaic.eq_ix1 _))) (congrArg x4 (Idealize.ShloMosaic.eq_ix1 _))

/-- The reference's distances. -/
theorem dist_apply (q : Fin 1024) (j : Fin 100000) :
    val_main_v25 (F := Ideal) x0 x1 x3 x4 (ix2 q j) = rowDist x0 x1 x3 x4 q j := by
  rw [val_main_v25_apply, val_main_v22_apply, val_main_v21_apply, val_main_v14_apply, val_main_v13_apply, val_main_v20_apply,
    val_main_v19_apply, val_main_v18_apply, val_main_v24_apply, val_main_v23_apply, val_main_v16_apply,
    val_main_cst_apply, val_main_cst_0_apply, val_main_cst_1_apply, word_zero, word_two, zero_add, zero_add]
  have h1 : ∀ d : Fin 16, val_main_v12 (F := Ideal) x0 x3 x4 (ix2 q d)
      = std (x0 (ix2 q d)) (x3 (ix1 d)) (x4 (ix1 d)) * std (x0 (ix2 q d)) (x3 (ix1 d)) (x4 (ix1 d)) := fun d => by
    rw [val_main_v12_apply, query_apply]; rfl
  have h2 : ∀ d : Fin 16, val_main_v15 (F := Ideal) x1 x3 x4 (ix2 j d)
      = std (x1 (ix2 j d)) (x3 (ix1 d)) (x4 (ix1 d)) * std (x1 (ix2 j d)) (x3 (ix1 d)) (x4 (ix1 d)) := fun d => by
    rw [val_main_v15_apply, key_apply]; rfl
  have h3 : ∀ d : Fin 16, val_main_v17 (F := Ideal) x1 x3 x4 (ix2 d j)
      = std (x1 (ix2 j d)) (x3 (ix1 d)) (x4 (ix1 d)) := fun d => by
    rw [val_main_v17_apply, ← key_apply]
    exact congrArg _ (eq_ix2 _)
  refine congrArg₂ HAdd.hAdd (congrArg₂ HSub.hSub (Finset.sum_congr rfl fun d _ => ?_)
    (congrArg (((2 : ℝ) : EReal) * ·) (Finset.sum_congr rfl fun d _ => congrArg₂ HMul.hMul ?_ ?_)))
    (Finset.sum_congr rfl fun d _ => ?_)
  · rw [← h1]; exact congrArg _ (eq_ix2 _)
  · rw [← query_apply]; exact congrArg _ (eq_ix2 _)
  · rw [← h3]; exact congrArg _ (eq_ix2 _)
  · rw [← h2]; exact congrArg _ (eq_ix2 _)

/-- The positions that the reference's top-k returns. -/
theorem indices_apply (q : Fin 1024) (t : Fin 5) :
    val_main_indices (F := Ideal) x0 x1 x3 x4 (ix2 q t) = BitVec.ofNat 32 (nearest x0 x1 x3 x4 q t).val := by
  unfold val_main_indices
  refine (topK_apply (by decide) _ _ q t).trans ?_
  unfold nearest
  have h : ∀ b c : Fin 100000, decide (val_main_v26 (F := Ideal) x0 x1 x3 x4 (ix2 q c) < val_main_v26 (F := Ideal) x0 x1 x3 x4 (ix2 q b))
      = decide (rowDist x0 x1 x3 x4 q b < rowDist x0 x1 x3 x4 q c) := fun b c => by
    rw [val_main_v26_apply, val_main_v26_apply, dist_apply, dist_apply, Ideal.hostNegf_def, Ideal.hostNegf_def]
    exact decide_eq_decide.2 EReal.neg_lt_neg_iff
  simp only [h]

/-- A position, as the start index of the reference's gather: it is not negative, so it is used as it is. -/
theorem start_apply (q : Fin 1024) (t : Fin 5) (z : Fin 1) :
    val_main_call0_v5 (F := Ideal) x0 x1 x3 x4 (ix3 q t z) = BitVec.ofNat 32 (nearest x0 x1 x3 x4 q t).val := by
  have hlt := (nearest x0 x1 x3 x4 q t).isLt
  rw [val_main_call0_v5_apply, val_main_call0_v4_apply, val_main_call0_v1_apply]
  have e : idx_main_call0_v5 (ix3 q t z) = ix2 q t := eq_ix2 _
  rw [e, indices_apply]
  rw [val_main_call0_v0_apply, val_main_call0_c_apply]
  have hs : IntOp.cmpi .slt (BitVec.ofNat 32 (nearest x0 x1 x3 x4 q t).val) 0#32 = 0#1 := by
    generalize (nearest x0 x1 x3 x4 q t).val = n at hlt
    rw [IntOp.cmpi, not_slt_zero n (by omega)]
    rfl
  rw [hs]
  rfl

/-- The five labels. -/
theorem label_apply (q : Fin 1024) (t : Fin 5) :
    val_main_v27 (F := Ideal) x0 x1 x2 x3 x4 (ix2 q t) = x2 (ix1 (nearest x0 x1 x3 x4 q t)) := by
  have hlt := (nearest x0 x1 x3 x4 q t).isLt
  have hall : ∀ i, val_main_call0_v11 (F := Ideal) x0 x1 x3 x4 i = 1#1 := fun i => by
    obtain ⟨a, b, z, rfl⟩ : ∃ a b z, i = ix3 a b z := ⟨_, _, _, eq_ix3 i⟩
    have hlt' := (nearest x0 x1 x3 x4 a b).isLt
    rw [val_main_call0_v11_apply, val_main_call0_v7_apply, val_main_call0_v10_apply, start_apply, val_main_call0_v6_apply,
      val_main_call0_c_2_apply, val_main_call0_v9_apply, val_main_call0_v8_apply, val_main_call0_c_1_apply]
    generalize (nearest x0 x1 x3 x4 a b).val = n at hlt'
    show BitVec.ofBool ((0#32).sle (BitVec.ofNat 32 n)) &&& BitVec.ofBool ((BitVec.ofNat 32 n).sle 99999#32) = 1#1
    rw [BitVec.sle, BitVec.sle, toInt_word n (by omega), decide_eq_true (by simp), decide_eq_true (by
      rw [show (99999#32 : BitVec 32).toInt = 99999 from by decide]; omega)]
    rfl
  have hsel : val_main_call0_v12 (F := Ideal) x0 x1 x3 x4 (ix2 q t) = 1#1 :=
    Host.reduce_andi_one _ _ _ _ _ rfl hall
  have hg : val_main_call0_v13 (F := Ideal) x0 x1 x2 x3 x4 (ix2 q t) = x2 (ix1 (nearest x0 x1 x3 x4 q t)) := by
    unfold val_main_call0_v13
    refine (ValueIdx.gather_take_apply (N := 100000) (R := 1024) (C := 5) (by decide)
      Facts₀.gather_S100000_S1024x5x1_S1024x5_n_0_n_n_0_2_1_wf x2 _ (ix2 q t)).trans (congrArg x2 ?_)
    have e : (ValueIdx.takeIdx (ix2 q t) : (⟨3, ![1024, 5, 1]⟩ : Shape).Idx) = ix3 q t 0 := eq_ix3 _
    refine congrArg ix1 (Fin.ext ?_)
    show min (val_main_call0_v5 (F := Ideal) x0 x1 x3 x4 (ValueIdx.takeIdx (ix2 q t))).toInt.toNat (100000 - 1) = _
    rw [e, start_apply, toInt_word _ (by omega)]
    omega
  rw [val_main_v27_apply, hsel, hg]
  rfl

/-- The reference's result: the share of the five nearest rows' labels that is class `c`. -/
theorem result_apply (q : Fin 1024) (c : Fin 10) :
    val_main_v31 (F := Ideal) x0 x1 x2 x3 x4 (ix2 q c) = share (fun t => x2 (ix1 (nearest x0 x1 x3 x4 q t))) c.val := by
  have h : ∀ t : Fin 5, val_main_v28 (F := Ideal) x0 x1 x2 x3 x4 (ix3 q t c)
      = vote (x2 (ix1 (nearest x0 x1 x3 x4 q t))) c.val := fun t => by
    rw [val_main_v28_apply, val_main_call1_v4_apply, val_main_call1_v2_apply, val_main_call1_v0_apply, val_main_call1_v3_apply,
      val_main_call1_v1_apply]
    have e : idx_main_call1_v0 (idx_main_call1_v2 (ix3 q t c)) = ix2 q t := eq_ix2 _
    rw [e, label_apply]
    exact vote_word _ _
  rw [val_main_v31_apply, val_main_v30_apply, val_main_cst_3_apply, word_five, val_main_v29_apply, val_main_cst_2_apply, word_zero,
    zero_add, Ideal.hostDivf_def]
  refine congrArg₂ Ideal.div (Finset.sum_congr rfl fun t _ => ?_) rfl
  rw [← h]
  exact congrArg _ (eq_ix3 _)

end Cert.ReferenceIdeal.Knn

end
-- ==== Proof.Range.lean ====
/- The precondition, read at an entry: features within 333333 of zero, labels from 0 to 15, scales that are not zero. -/
module

public import proofs.«01_k».proof.Pre_in_range
public import proofs.«01_k».proof.Proof.Gen.Pre_in_range
public import Idealize.ShloMosaic.PureOps.Ideal.Laws

@[expose] public section

noncomputable section

namespace Cert.Pre_in_range.Knn

open Idealize.ShloMosaic Cert.Pre_in_range Cert.Pre_in_range.Gen

/-- The binary32 word of 333333. -/
theorem word_high : Ideal.ofBits .f32 0x48A2C2A0#32 = ((333333 : ℝ) : EReal) := by
  simp [Ideal.ofBits, Ideal.ieee, -EReal.coe_mul]; norm_num

/-- The binary32 word of -333333. -/
theorem word_low : Ideal.ofBits .f32 0xC8A2C2A0#32 = ((-333333 : ℝ) : EReal) := by
  simp [Ideal.ofBits, Ideal.ieee, -EReal.coe_mul]; norm_num

/-- The binary32 word of zero. -/
theorem word_null : Ideal.ofBits .f32 0x00000000#32 = 0 := by
  simp [Ideal.ofBits, Ideal.ieee, -EReal.coe_mul]

/-- A bit made of a decision is one only if the decision is yes. -/
theorem of_bit {b : Bool} (h : BitVec.ofBool b = 1#1) : b = true := by
  cases b
  · exact absurd h (by decide)
  · rfl

/-- An extended real between -333333 and 333333 is a real number between them. -/
theorem real_of_bounds (x : EReal) (h1 : x ≤ ((333333 : ℝ) : EReal)) (h2 : ((-333333 : ℝ) : EReal) ≤ x) :
    ∃ r : ℝ, x = r ∧ -333333 ≤ r ∧ r ≤ 333333 := by
  induction x with
  | bot => exact absurd h2 (not_le.2 (EReal.bot_lt_coe _))
  | top => exact absurd h1 (not_le.2 (EReal.coe_lt_top _))
  | coe r => exact ⟨r, rfl, EReal.coe_le_coe_iff.1 h2, EReal.coe_le_coe_iff.1 h1⟩

/-- A word that is at least 0 and below 16, read signed, is below 16 read unsigned. -/
theorem small_word (w : BitVec 32) (h1 : (0#32).sle w = true) (h2 : w.slt 16#32 = true) : w.toNat < 16 := by
  rw [BitVec.sle, decide_eq_true_eq] at h1
  rw [BitVec.slt, decide_eq_true_eq] at h2
  have e0 : (0#32).toInt = 0 := by decide
  have e1 : (16#32).toInt = 16 := by decide
  rw [e0] at h1
  rw [e1] at h2
  rw [BitVec.toInt_eq_toNat_cond] at h1 h2
  have := w.isLt
  split at h1 <;> omega

variable (x0 : FVec Ideal S1024x16 .f32) (x1 : FVec Ideal S100000x16 .f32) (x2 : IVec S100000 32) (x3 x4 : FVec Ideal S16 .f32)

/-- What the precondition says of the entries of the arguments. -/
structure InRange : Prop where
  query : ∀ i, ∃ r : ℝ, x0 i = (r : EReal) ∧ -333333 ≤ r ∧ r ≤ 333333
  row : ∀ i, ∃ r : ℝ, x1 i = (r : EReal) ∧ -333333 ≤ r ∧ r ≤ 333333
  label : ∀ i, (x2 i).toNat < 16
  scale : ∀ i, x4 i ≠ 0

/-- The precondition, entry by entry. -/
theorem inRange_of
    (h : (fn (F := Ideal) x0 x1 x2 x3 x4).1 = (fun _ => 1#1)
      ∧ (fn (F := Ideal) x0 x1 x2 x3 x4).2.1 = (fun _ => 1#1)
      ∧ (fn (F := Ideal) x0 x1 x2 x3 x4).2.2.1 = (fun _ => 1#1)
      ∧ (fn (F := Ideal) x0 x1 x2 x3 x4).2.2.2.1 = (fun _ => 1#1)
      ∧ (fn (F := Ideal) x0 x1 x2 x3 x4).2.2.2.2.1 = (fun _ => 1#1)
      ∧ (fn (F := Ideal) x0 x1 x2 x3 x4).2.2.2.2.2.1 = (fun _ => 1#1)
      ∧ (fn (F := Ideal) x0 x1 x2 x3 x4).2.2.2.2.2.2 = (fun _ => 1#1)) : InRange x0 x1 x2 x4 := by
  obtain ⟨h1, h2, h3, h4, h5, h6, h7⟩ := h
  refine ⟨fun i => real_of_bounds _ ?_ ?_, fun i => real_of_bounds _ ?_ ?_, fun i => small_word _ ?_ ?_, fun i => ?_⟩
  · have e : BitVec.ofBool (decide (x0 i ≤ Ideal.ofBits .f32 0x48A2C2A0#32)) = 1#1 := congrFun h1 i
    rw [← word_high]; exact of_decide_eq_true (of_bit e)
  · have e : BitVec.ofBool (decide (Ideal.ofBits .f32 0xC8A2C2A0#32 ≤ x0 i)) = 1#1 := congrFun h2 i
    rw [← word_low]; exact of_decide_eq_true (of_bit e)
  · have e : BitVec.ofBool (decide (x1 i ≤ Ideal.ofBits .f32 0x48A2C2A0#32)) = 1#1 := congrFun h3 i
    rw [← word_high]; exact of_decide_eq_true (of_bit e)
  · have e : BitVec.ofBool (decide (Ideal.ofBits .f32 0xC8A2C2A0#32 ≤ x1 i)) = 1#1 := congrFun h4 i
    rw [← word_low]; exact of_decide_eq_true (of_bit e)
  · have e : BitVec.ofBool ((0#32).sle (x2 i)) = 1#1 := congrFun h5 i
    exact of_bit e
  · have e : BitVec.ofBool ((x2 i).slt 16#32) = 1#1 := congrFun h6 i
    exact of_bit e
  · have e : BitVec.ofBool (decide (x4 i ≠ Ideal.ofBits .f32 0x00000000#32)) = 1#1 := congrFun h7 i
    rw [← word_null]; exact of_decide_eq_true (of_bit e)

end Cert.Pre_in_range.Knn

end
-- ==== Proof.Rounds.lean ====
/- The kernel's rounds, read at a row: one round takes the least value of the row, the least word among the entries that hold
   it, and sets the entries of that word to `+∞`. Five rounds over the 1024 distances of a block and five over the ten
   candidates (the five kept so far and the block's five). -/
module

public import proofs.«01_k».proof.Proof.Gen.KernelIdeal.Skeleton
public import proofs.«01_k».proof.Proof.Select
public import proofs.«01_k».proof.Proof.Dist
public import Idealize.ShloMosaic.Lib.Pointwise
public import Idealize.ShloMosaic.Lib.Pipeline.Value

@[expose] public section

set_option maxRecDepth 16384

noncomputable section

namespace Cert.KernelIdeal.Knn

open Idealize.ShloMosaic Cert.Knn Cert.KernelIdeal Cert.KernelIdeal.Gen

/-- The binary32 word of `+∞`. -/
theorem word_top : Ideal.ofBits .f32 0x7F800000#32 = ⊤ := by
  simp [Ideal.ofBits, Ideal.ieee, -EReal.coe_mul]

/-- A select on "the words are equal". -/
theorem select_eq_word {α : Type} (a b : BitVec 32) (x y : α) :
    Scalar.select (IntOp.cmpi .eq a b) x y = if a = b then x else y := by
  show (if BitVec.ofBool (a == b) = 1#1 then x else y) = _
  by_cases h : a = b
  · rw [if_pos h, h]; simp
  · rw [if_neg h, beq_false_of_ne h]; simp

/-- The least value of a row of 1024. -/
theorem min_block (v : FVec Ideal S1024x1024 .f32) (V : Fin 1024 → EReal) (q : Fin 1024) (hv : ∀ i, v (ix2 q i) = V i) (z : Fin 1) :
    shapeCast S1024x1 (multiReduction .minimumf [1] S1024 v 0x7F800000#32 reduces_S1024x1024_S1024 (.inl rfl) rfl)
      shapeCasts_S1024_S1024x1 (ix2 q z) = leastValue V := by
  pointwise
  rw [word_top]
  simp only [hv]
  rfl

/-- The word picked in a row of 1024, before it is laid out as a column. -/
theorem pick_block_flat (v : FVec Ideal S1024x1024 .f32) (mv : FVec Ideal S1024x1 .f32) (p : IVec S1024x1024 32)
    (V : Fin 1024 → EReal) (P : Fin 1024 → BitVec 32) (q : Fin 1024) (hv : ∀ i, v (ix2 q i) = V i) (hp : ∀ i, p (ix2 q i) = P i)
    (hm : mv (ix2 q 0) = leastValue V) :
    multiReductionI .minsi [1] S1024 (select (cmpf .oeq v (broadcastTo S1024x1024 mv broadcasts_S1024x1_S1024x1024)) p
      (broadcast S1024x1024 1073741824#32)) 2147483647#32 reduces_S1024x1024_S1024 rfl (ix1 q) = pick V P := by
  pointwise
  simp only [hv, hp, hm]
  rfl

/-- The word picked in a row of 1024. -/
theorem pick_block (v : FVec Ideal S1024x1024 .f32) (mv : FVec Ideal S1024x1 .f32) (p : IVec S1024x1024 32)
    (V : Fin 1024 → EReal) (P : Fin 1024 → BitVec 32) (q : Fin 1024) (hv : ∀ i, v (ix2 q i) = V i) (hp : ∀ i, p (ix2 q i) = P i)
    (hm : mv (ix2 q 0) = leastValue V) (z : Fin 1) :
    shapeCast S1024x1 (multiReductionI .minsi [1] S1024 (select (cmpf .oeq v (broadcastTo S1024x1024 mv broadcasts_S1024x1_S1024x1024)) p
      (broadcast S1024x1024 1073741824#32)) 2147483647#32 reduces_S1024x1024_S1024 rfl) shapeCasts_S1024_S1024x1 (ix2 q z) = pick V P := by
  pointwise
  simp only [hv, hp, hm]
  rfl

/-- The words picked in every row of 1024. -/
theorem pick_block_all (v : FVec Ideal S1024x1024 .f32) (mv : FVec Ideal S1024x1 .f32) (p : IVec S1024x1024 32)
    (V : Fin 1024 → Fin 1024 → EReal) (P : Fin 1024 → Fin 1024 → BitVec 32) (hv : ∀ q i, v (ix2 q i) = V q i)
    (hp : ∀ q i, p (ix2 q i) = P q i) (hm : ∀ q, mv (ix2 q 0) = leastValue (V q)) :
    shapeCast S1024x1 (multiReductionI .minsi [1] S1024 (select (cmpf .oeq v (broadcastTo S1024x1024 mv broadcasts_S1024x1_S1024x1024)) p
      (broadcast S1024x1024 1073741824#32)) 2147483647#32 reduces_S1024x1024_S1024 rfl) shapeCasts_S1024_S1024x1
      = fun j => pick (V (j 0)) (P (j 0)) := by
  funext j
  obtain ⟨q, z, rfl⟩ : ∃ q z, j = ix2 q z := ⟨_, _, eq_ix2 j⟩
  exact pick_block v mv p (V q) (P q) q (hv q) (hp q) (hm q) z

/-- The row of 1024 after the round. -/
theorem drop_block (v : FVec Ideal S1024x1024 .f32) (mi : IVec S1024x1 32) (p : IVec S1024x1024 32)
    (V : Fin 1024 → EReal) (P : Fin 1024 → BitVec 32) (q : Fin 1024) (hv : ∀ i, v (ix2 q i) = V i) (hp : ∀ i, p (ix2 q i) = P i)
    (hm : mi (ix2 q 0) = pick V P) (i : Fin 1024) :
    select (cmpi .eq p (broadcastTo S1024x1024 mi broadcasts_S1024x1_S1024x1024))
      (broadcast S1024x1024 (Scalar.ofBits (F := Ideal) .f32 0x7F800000#32)) v (ix2 q i) = drop V P i := by
  pointwise
  rw [select_eq_word, word_top, hv, hp, hm]
  rfl

/-- The least value of a row of 10. -/
theorem min_cand (v : FVec Ideal S1024x10 .f32) (V : Fin 10 → EReal) (q : Fin 1024) (hv : ∀ i, v (ix2 q i) = V i) (z : Fin 1) :
    shapeCast S1024x1 (multiReduction .minimumf [1] S1024 v 0x7F800000#32 reduces_S1024x10_S1024 (.inl rfl) rfl)
      shapeCasts_S1024_S1024x1 (ix2 q z) = leastValue V := by
  pointwise
  rw [word_top]
  simp only [hv]
  rfl

/-- The word picked in a row of 10, before it is laid out as a column. -/
theorem pick_cand_flat (v : FVec Ideal S1024x10 .f32) (mv : FVec Ideal S1024x1 .f32) (p : IVec S1024x10 32)
    (V : Fin 10 → EReal) (P : Fin 10 → BitVec 32) (q : Fin 1024) (hv : ∀ i, v (ix2 q i) = V i) (hp : ∀ i, p (ix2 q i) = P i)
    (hm : mv (ix2 q 0) = leastValue V) :
    multiReductionI .minsi [1] S1024 (select (cmpf .oeq v (broadcastTo S1024x10 mv broadcasts_S1024x1_S1024x10)) p
      (broadcast S1024x10 1073741824#32)) 2147483647#32 reduces_S1024x10_S1024 rfl (ix1 q) = pick V P := by
  pointwise
  simp only [hv, hp, hm]
  rfl

/-- The word picked in a row of 10. -/
theorem pick_cand (v : FVec Ideal S1024x10 .f32) (mv : FVec Ideal S1024x1 .f32) (p : IVec S1024x10 32)
    (V : Fin 10 → EReal) (P : Fin 10 → BitVec 32) (q : Fin 1024) (hv : ∀ i, v (ix2 q i) = V i) (hp : ∀ i, p (ix2 q i) = P i)
    (hm : mv (ix2 q 0) = leastValue V) (z : Fin 1) :
    shapeCast S1024x1 (multiReductionI .minsi [1] S1024 (select (cmpf .oeq v (broadcastTo S1024x10 mv broadcasts_S1024x1_S1024x10)) p
      (broadcast S1024x10 1073741824#32)) 2147483647#32 reduces_S1024x10_S1024 rfl) shapeCasts_S1024_S1024x1 (ix2 q z) = pick V P := by
  pointwise
  simp only [hv, hp, hm]
  rfl

/-- The words picked in every row of 10. -/
theorem pick_cand_all (v : FVec Ideal S1024x10 .f32) (mv : FVec Ideal S1024x1 .f32) (p : IVec S1024x10 32)
    (V : Fin 1024 → Fin 10 → EReal) (P : Fin 1024 → Fin 10 → BitVec 32) (hv : ∀ q i, v (ix2 q i) = V q i)
    (hp : ∀ q i, p (ix2 q i) = P q i) (hm : ∀ q, mv (ix2 q 0) = leastValue (V q)) :
    shapeCast S1024x1 (multiReductionI .minsi [1] S1024 (select (cmpf .oeq v (broadcastTo S1024x10 mv broadcasts_S1024x1_S1024x10)) p
      (broadcast S1024x10 1073741824#32)) 2147483647#32 reduces_S1024x10_S1024 rfl) shapeCasts_S1024_S1024x1
      = fun j => pick (V (j 0)) (P (j 0)) := by
  funext j
  obtain ⟨q, z, rfl⟩ : ∃ q z, j = ix2 q z := ⟨_, _, eq_ix2 j⟩
  exact pick_cand v mv p (V q) (P q) q (hv q) (hp q) (hm q) z

/-- The row of 10 after the round. -/
theorem drop_cand (v : FVec Ideal S1024x10 .f32) (mi : IVec S1024x1 32) (p : IVec S1024x10 32)
    (V : Fin 10 → EReal) (P : Fin 10 → BitVec 32) (q : Fin 1024) (hv : ∀ i, v (ix2 q i) = V i) (hp : ∀ i, p (ix2 q i) = P i)
    (hm : mi (ix2 q 0) = pick V P) (i : Fin 10) :
    select (cmpi .eq p (broadcastTo S1024x10 mi broadcasts_S1024x1_S1024x10))
      (broadcast S1024x10 (Scalar.ofBits (F := Ideal) .f32 0x7F800000#32)) v (ix2 q i) = drop V P i := by
  pointwise
  rw [select_eq_word, word_top, hv, hp, hm]
  rfl

/-! ## The five rounds of a block -/

section Block

variable (d : FVec Ideal S1024x1024 .f32) (w : IVec S1x1024 32) (q : Fin 1024)

/-- The distances of row `q` after `n` rounds. -/
abbrev left (n : ℕ) : Fin 1024 → EReal := rest (fun i => d (ix2 q i)) (fun i => w (ix2 0 i)) n

/-- The value of round `n`. -/
abbrev bestValue (n : ℕ) : EReal := leastValue (left d w q n)

/-- The word of round `n`. -/
abbrev bestWord (n : ℕ) : BitVec 32 := pick (left d w q n) fun i => w (ix2 0 i)

theorem pay6_apply (i : Fin 1024) : k0_pay6 w (ix2 q i) = w (ix2 0 i) := by
  unfold k0_pay6
  pointwise

theorem pay7_apply (z : Fin 1) : k0_pay7 d (ix2 q z) = bestValue d w q 0 := by
  unfold k0_pay7
  exact min_block _ _ q (fun _ => rfl) z

theorem pay8_apply (z : Fin 1) : k0_pay8 d w (ix2 q z) = bestWord d w q 0 := by
  unfold k0_pay8
  exact pick_block _ _ _ _ _ q (fun _ => rfl) (pay6_apply w q) (pay7_apply d w q 0) z

theorem pay9_apply (i : Fin 1024) : k0_pay9 d w (ix2 q i) = left d w q 1 i := by
  unfold k0_pay9
  exact drop_block _ _ _ _ _ q (fun _ => rfl) (pay6_apply w q) (pay8_apply d w q 0) i

theorem pay10_apply (z : Fin 1) : k0_pay10 d w (ix2 q z) = bestValue d w q 1 := by
  unfold k0_pay10
  exact min_block _ _ q (pay9_apply d w q) z

theorem pay11_apply (z : Fin 1) : k0_pay11 d w (ix2 q z) = bestWord d w q 1 := by
  unfold k0_pay11
  exact pick_block _ _ _ _ _ q (pay9_apply d w q) (pay6_apply w q) (pay10_apply d w q 0) z

theorem pay12_apply (i : Fin 1024) : k0_pay12 d w (ix2 q i) = left d w q 2 i := by
  unfold k0_pay12
  exact drop_block _ _ _ _ _ q (pay9_apply d w q) (pay6_apply w q) (pay11_apply d w q 0) i

theorem pay13_apply (z : Fin 1) : k0_pay13 d w (ix2 q z) = bestValue d w q 2 := by
  unfold k0_pay13
  exact min_block _ _ q (pay12_apply d w q) z

theorem pay14_apply (z : Fin 1) : k0_pay14 d w (ix2 q z) = bestWord d w q 2 := by
  unfold k0_pay14
  exact pick_block _ _ _ _ _ q (pay12_apply d w q) (pay6_apply w q) (pay13_apply d w q 0) z

theorem pay15_apply (i : Fin 1024) : k0_pay15 d w (ix2 q i) = left d w q 3 i := by
  unfold k0_pay15
  exact drop_block _ _ _ _ _ q (pay12_apply d w q) (pay6_apply w q) (pay14_apply d w q 0) i

theorem pay16_apply (z : Fin 1) : k0_pay16 d w (ix2 q z) = bestValue d w q 3 := by
  unfold k0_pay16
  exact min_block _ _ q (pay15_apply d w q) z

theorem pay17_apply : k0_pay17 d w (ix1 q) = bestWord d w q 3 := by
  unfold k0_pay17
  exact pick_block_flat _ _ _ _ _ q (pay15_apply d w q) (pay6_apply w q) (pay16_apply d w q 0)

theorem pay18_apply (z : Fin 1) : k0_pay18 (k0_pay17 d w) (ix2 q z) = bestWord d w q 3 := by
  rw [← pay17_apply]
  unfold k0_pay18
  pointwise

theorem pay19_apply (i : Fin 1024) : k0_pay19 (k0_pay6 w) (k0_pay15 d w) (k0_pay17 d w) (ix2 q i) = left d w q 4 i := by
  unfold k0_pay19
  exact drop_block _ _ _ _ _ q (pay15_apply d w q) (pay6_apply w q) (pay18_apply d w q 0) i

theorem pay20_apply (z : Fin 1) : k0_pay20 (k0_pay6 w) (k0_pay15 d w) (k0_pay17 d w) (ix2 q z) = bestValue d w q 4 := by
  unfold k0_pay20
  exact min_block _ _ q (pay19_apply d w q) z

end Block

/-! ## The five rounds of the merge -/

section Merge

variable (d : FVec Ideal S1024x1024 .f32) (w : IVec S1x1024 32) (bd : FVec Ideal S1024x5 .f32) (bi : IVec S1024x5 32) (q : Fin 1024)

/-- The ten candidates' values: the five kept, then the block's five. -/
def candValue (i : Fin 10) : EReal := if h : i.val < 5 then bd (ix2 q ⟨i.val, h⟩) else bestValue d w q (i.val - 5)

/-- The ten candidates' words. -/
def candWord (i : Fin 10) : BitVec 32 := if h : i.val < 5 then bi (ix2 q ⟨i.val, h⟩) else bestWord d w q (i.val - 5)

/-- The values after `n` rounds of the merge. -/
abbrev candLeft (n : ℕ) : Fin 10 → EReal := rest (candValue d w bd q) (candWord d w bi q) n

theorem pay21_apply (i : Fin 10) : k0_pay21 (k0_pay6 w) (k0_pay7 d) (k0_pay10 d w) (k0_pay13 d w) (k0_pay15 d w) (k0_pay16 d w) (k0_pay17 d w) bd (ix2 q i) = candValue d w bd q i := by
  unfold k0_pay21 candValue
  pointwise
  simp only [pay7_apply d w, pay10_apply, pay13_apply, pay16_apply, pay20_apply]
  fin_cases i <;> simp

theorem pay22_apply (i : Fin 10) : k0_pay22 (k0_pay6 w) (k0_pay8 d w) (k0_pay11 d w) (k0_pay14 d w) (k0_pay15 d w) (k0_pay17 d w) bi (ix2 q i) = candWord d w bi q i := by
  unfold k0_pay22 candWord
  dsimp only
  rw [pick_block_all _ _ _ (fun q => left d w q 4) (fun _ i => w (ix2 0 i)) (pay19_apply d w) (pay6_apply w) (fun q => pay20_apply d w q 0)]
  pointwise
  simp only [pay8_apply, pay11_apply, pay14_apply, pay18_apply]
  fin_cases i <;> simp

theorem pay23_apply (z : Fin 1) : k0_pay23 (k0_pay6 w) (k0_pay7 d) (k0_pay10 d w) (k0_pay13 d w) (k0_pay15 d w) (k0_pay16 d w) (k0_pay17 d w) bd (ix2 q z) = leastValue (candLeft d w bd bi q 0) := by
  unfold k0_pay23
  exact min_cand _ _ q (pay21_apply d w bd q) z

theorem pay24_apply (z : Fin 1) : k0_pay24 (k0_pay6 w) (k0_pay7 d) (k0_pay8 d w) (k0_pay10 d w) (k0_pay11 d w) (k0_pay13 d w) (k0_pay14 d w) (k0_pay15 d w) (k0_pay16 d w) (k0_pay17 d w) bd bi (ix2 q z) = pick (candLeft d w bd bi q 0) (candWord d w bi q) := by
  unfold k0_pay24
  exact pick_cand _ _ _ _ _ q (pay21_apply d w bd q) (pay22_apply d w bi q) (pay23_apply d w bd bi q 0) z

theorem pay25_apply (i : Fin 10) : k0_pay25 (k0_pay6 w) (k0_pay7 d) (k0_pay8 d w) (k0_pay10 d w) (k0_pay11 d w) (k0_pay13 d w) (k0_pay14 d w) (k0_pay15 d w) (k0_pay16 d w) (k0_pay17 d w) bd bi (ix2 q i) = candLeft d w bd bi q 1 i := by
  unfold k0_pay25
  exact drop_cand _ _ _ _ _ q (pay21_apply d w bd q) (pay22_apply d w bi q) (pay24_apply d w bd bi q 0) i

theorem pay26_apply (z : Fin 1) : k0_pay26 (k0_pay6 w) (k0_pay7 d) (k0_pay8 d w) (k0_pay10 d w) (k0_pay11 d w) (k0_pay13 d w) (k0_pay14 d w) (k0_pay15 d w) (k0_pay16 d w) (k0_pay17 d w) bd bi (ix2 q z) = leastValue (candLeft d w bd bi q 1) := by
  unfold k0_pay26
  exact min_cand _ _ q (pay25_apply d w bd bi q) z

theorem pay27_apply (z : Fin 1) : k0_pay27 (k0_pay6 w) (k0_pay7 d) (k0_pay8 d w) (k0_pay10 d w) (k0_pay11 d w) (k0_pay13 d w) (k0_pay14 d w) (k0_pay15 d w) (k0_pay16 d w) (k0_pay17 d w) bd bi (ix2 q z) = pick (candLeft d w bd bi q 1) (candWord d w bi q) := by
  unfold k0_pay27
  exact pick_cand _ _ _ _ _ q (pay25_apply d w bd bi q) (pay22_apply d w bi q) (pay26_apply d w bd bi q 0) z

theorem pay28_apply (i : Fin 10) : k0_pay28 (k0_pay6 w) (k0_pay7 d) (k0_pay8 d w) (k0_pay10 d w) (k0_pay11 d w) (k0_pay13 d w) (k0_pay14 d w) (k0_pay15 d w) (k0_pay16 d w) (k0_pay17 d w) bd bi (ix2 q i) = candLeft d w bd bi q 2 i := by
  unfold k0_pay28
  exact drop_cand _ _ _ _ _ q (pay25_apply d w bd bi q) (pay22_apply d w bi q) (pay27_apply d w bd bi q 0) i

theorem pay29_apply (z : Fin 1) : k0_pay29 (k0_pay6 w) (k0_pay7 d) (k0_pay8 d w) (k0_pay10 d w) (k0_pay11 d w) (k0_pay13 d w) (k0_pay14 d w) (k0_pay15 d w) (k0_pay16 d w) (k0_pay17 d w) bd bi (ix2 q z) = leastValue (candLeft d w bd bi q 2) := by
  unfold k0_pay29
  exact min_cand _ _ q (pay28_apply d w bd bi q) z

theorem pay30_apply (z : Fin 1) : k0_pay30 (k0_pay22 (k0_pay6 w) (k0_pay8 d w) (k0_pay11 d w) (k0_pay14 d w) (k0_pay15 d w) (k0_pay17 d w) bi) (k0_pay28 (k0_pay6 w) (k0_pay7 d) (k0_pay8 d w) (k0_pay10 d w) (k0_pay11 d w) (k0_pay13 d w) (k0_pay14 d w) (k0_pay15 d w) (k0_pay16 d w) (k0_pay17 d w) bd bi) (k0_pay29 (k0_pay6 w) (k0_pay7 d) (k0_pay8 d w) (k0_pay10 d w) (k0_pay11 d w) (k0_pay13 d w) (k0_pay14 d w) (k0_pay15 d w) (k0_pay16 d w) (k0_pay17 d w) bd bi) (ix2 q z) = pick (candLeft d w bd bi q 2) (candWord d w bi q) := by
  unfold k0_pay30
  exact pick_cand _ _ _ _ _ q (pay28_apply d w bd bi q) (pay22_apply d w bi q) (pay29_apply d w bd bi q 0) z

theorem pay31_apply (i : Fin 10) : k0_pay31 (k0_pay22 (k0_pay6 w) (k0_pay8 d w) (k0_pay11 d w) (k0_pay14 d w) (k0_pay15 d w) (k0_pay17 d w) bi) (k0_pay28 (k0_pay6 w) (k0_pay7 d) (k0_pay8 d w) (k0_pay10 d w) (k0_pay11 d w) (k0_pay13 d w) (k0_pay14 d w) (k0_pay15 d w) (k0_pay16 d w) (k0_pay17 d w) bd bi) (k0_pay29 (k0_pay6 w) (k0_pay7 d) (k0_pay8 d w) (k0_pay10 d w) (k0_pay11 d w) (k0_pay13 d w) (k0_pay14 d w) (k0_pay15 d w) (k0_pay16 d w) (k0_pay17 d w) bd bi) (ix2 q i) = candLeft d w bd bi q 3 i := by
  unfold k0_pay31
  exact drop_cand _ _ _ _ _ q (pay28_apply d w bd bi q) (pay22_apply d w bi q) (pay30_apply d w bd bi q 0) i

theorem pay32_apply (z : Fin 1) : k0_pay32 (k0_pay22 (k0_pay6 w) (k0_pay8 d w) (k0_pay11 d w) (k0_pay14 d w) (k0_pay15 d w) (k0_pay17 d w) bi) (k0_pay28 (k0_pay6 w) (k0_pay7 d) (k0_pay8 d w) (k0_pay10 d w) (k0_pay11 d w) (k0_pay13 d w) (k0_pay14 d w) (k0_pay15 d w) (k0_pay16 d w) (k0_pay17 d w) bd bi) (k0_pay29 (k0_pay6 w) (k0_pay7 d) (k0_pay8 d w) (k0_pay10 d w) (k0_pay11 d w) (k0_pay13 d w) (k0_pay14 d w) (k0_pay15 d w) (k0_pay16 d w) (k0_pay17 d w) bd bi) (ix2 q z) = leastValue (candLeft d w bd bi q 3) := by
  unfold k0_pay32
  exact min_cand _ _ q (pay31_apply d w bd bi q) z

theorem pay33_apply (z : Fin 1) : k0_pay33 (k0_pay22 (k0_pay6 w) (k0_pay8 d w) (k0_pay11 d w) (k0_pay14 d w) (k0_pay15 d w) (k0_pay17 d w) bi) (k0_pay28 (k0_pay6 w) (k0_pay7 d) (k0_pay8 d w) (k0_pay10 d w) (k0_pay11 d w) (k0_pay13 d w) (k0_pay14 d w) (k0_pay15 d w) (k0_pay16 d w) (k0_pay17 d w) bd bi) (k0_pay29 (k0_pay6 w) (k0_pay7 d) (k0_pay8 d w) (k0_pay10 d w) (k0_pay11 d w) (k0_pay13 d w) (k0_pay14 d w) (k0_pay15 d w) (k0_pay16 d w) (k0_pay17 d w) bd bi) (ix2 q z) = pick (candLeft d w bd bi q 3) (candWord d w bi q) := by
  unfold k0_pay33
  exact pick_cand _ _ _ _ _ q (pay31_apply d w bd bi q) (pay22_apply d w bi q) (pay32_apply d w bd bi q 0) z

theorem pay34_apply (i : Fin 10) : k0_pay34 (k0_pay22 (k0_pay6 w) (k0_pay8 d w) (k0_pay11 d w) (k0_pay14 d w) (k0_pay15 d w) (k0_pay17 d w) bi) (k0_pay28 (k0_pay6 w) (k0_pay7 d) (k0_pay8 d w) (k0_pay10 d w) (k0_pay11 d w) (k0_pay13 d w) (k0_pay14 d w) (k0_pay15 d w) (k0_pay16 d w) (k0_pay17 d w) bd bi) (k0_pay29 (k0_pay6 w) (k0_pay7 d) (k0_pay8 d w) (k0_pay10 d w) (k0_pay11 d w) (k0_pay13 d w) (k0_pay14 d w) (k0_pay15 d w) (k0_pay16 d w) (k0_pay17 d w) bd bi) (ix2 q i) = candLeft d w bd bi q 4 i := by
  unfold k0_pay34
  exact drop_cand _ _ _ _ _ q (pay31_apply d w bd bi q) (pay22_apply d w bi q) (pay33_apply d w bd bi q 0) i

theorem pay35_apply (z : Fin 1) : k0_pay35 (k0_pay22 (k0_pay6 w) (k0_pay8 d w) (k0_pay11 d w) (k0_pay14 d w) (k0_pay15 d w) (k0_pay17 d w) bi) (k0_pay28 (k0_pay6 w) (k0_pay7 d) (k0_pay8 d w) (k0_pay10 d w) (k0_pay11 d w) (k0_pay13 d w) (k0_pay14 d w) (k0_pay15 d w) (k0_pay16 d w) (k0_pay17 d w) bd bi) (k0_pay29 (k0_pay6 w) (k0_pay7 d) (k0_pay8 d w) (k0_pay10 d w) (k0_pay11 d w) (k0_pay13 d w) (k0_pay14 d w) (k0_pay15 d w) (k0_pay16 d w) (k0_pay17 d w) bd bi) (ix2 q z) = leastValue (candLeft d w bd bi q 4) := by
  unfold k0_pay35
  exact min_cand _ _ q (pay34_apply d w bd bi q) z

/-- The five values kept after the block. -/
theorem pay36_apply (t : Fin 5) : k0_pay36 (k0_pay22 (k0_pay6 w) (k0_pay8 d w) (k0_pay11 d w) (k0_pay14 d w) (k0_pay15 d w) (k0_pay17 d w) bi) (k0_pay23 (k0_pay6 w) (k0_pay7 d) (k0_pay10 d w) (k0_pay13 d w) (k0_pay15 d w) (k0_pay16 d w) (k0_pay17 d w) bd) (k0_pay26 (k0_pay6 w) (k0_pay7 d) (k0_pay8 d w) (k0_pay10 d w) (k0_pay11 d w) (k0_pay13 d w) (k0_pay14 d w) (k0_pay15 d w) (k0_pay16 d w) (k0_pay17 d w) bd bi) (k0_pay28 (k0_pay6 w) (k0_pay7 d) (k0_pay8 d w) (k0_pay10 d w) (k0_pay11 d w) (k0_pay13 d w) (k0_pay14 d w) (k0_pay15 d w) (k0_pay16 d w) (k0_pay17 d w) bd bi) (k0_pay29 (k0_pay6 w) (k0_pay7 d) (k0_pay8 d w) (k0_pay10 d w) (k0_pay11 d w) (k0_pay13 d w) (k0_pay14 d w) (k0_pay15 d w) (k0_pay16 d w) (k0_pay17 d w) bd bi) (ix2 q (t.castLE (by decide))) = leastValue (candLeft d w bd bi q t.val) := by
  unfold k0_pay36
  pointwise
  simp only [pay23_apply d w bd bi, pay26_apply, pay29_apply, pay32_apply, pay35_apply]
  fin_cases t <;> simp

/-- The five words kept after the block. -/
theorem pay37_apply (t : Fin 5) : k0_pay37 (k0_pay22 (k0_pay6 w) (k0_pay8 d w) (k0_pay11 d w) (k0_pay14 d w) (k0_pay15 d w) (k0_pay17 d w) bi) (k0_pay24 (k0_pay6 w) (k0_pay7 d) (k0_pay8 d w) (k0_pay10 d w) (k0_pay11 d w) (k0_pay13 d w) (k0_pay14 d w) (k0_pay15 d w) (k0_pay16 d w) (k0_pay17 d w) bd bi) (k0_pay27 (k0_pay6 w) (k0_pay7 d) (k0_pay8 d w) (k0_pay10 d w) (k0_pay11 d w) (k0_pay13 d w) (k0_pay14 d w) (k0_pay15 d w) (k0_pay16 d w) (k0_pay17 d w) bd bi) (k0_pay28 (k0_pay6 w) (k0_pay7 d) (k0_pay8 d w) (k0_pay10 d w) (k0_pay11 d w) (k0_pay13 d w) (k0_pay14 d w) (k0_pay15 d w) (k0_pay16 d w) (k0_pay17 d w) bd bi) (k0_pay29 (k0_pay6 w) (k0_pay7 d) (k0_pay8 d w) (k0_pay10 d w) (k0_pay11 d w) (k0_pay13 d w) (k0_pay14 d w) (k0_pay15 d w) (k0_pay16 d w) (k0_pay17 d w) bd bi) (ix2 q (t.castLE (by decide))) = pick (candLeft d w bd bi q t.val) (candWord d w bi q) := by
  unfold k0_pay37
  dsimp only
  rw [pick_cand_all _ _ _ (fun q => candLeft d w bd bi q 4) (candWord d w bi) (pay34_apply d w bd bi) (pay22_apply d w bi)
    (fun q => pay35_apply d w bd bi q 0)]
  pointwise
  simp only [pay24_apply, pay27_apply, pay30_apply, pay33_apply]
  fin_cases t <;> simp

end Merge

end Cert.KernelIdeal.Knn

end
-- ==== Proof.Payload.lean ====
/- The rest of the kernel's arithmetic, read at an index: the distances of a block, the starting contents of the kept five,
   and the shares of the votes. -/
module

public import proofs.«01_k».proof.Proof.Gen.KernelIdeal.Skeleton
public import proofs.«01_k».proof.Proof.Dist
public import proofs.«01_k».proof.Proof.Vote
public import Idealize.ShloMosaic.Lib.Pointwise
public import Idealize.ShloMosaic.Lib.Pipeline.Value

@[expose] public section

set_option maxRecDepth 16384

noncomputable section

namespace Cert.KernelIdeal.Knn

open Idealize.ShloMosaic Cert.Knn Cert.KernelIdeal Cert.KernelIdeal.Gen

/-- A block's distances: those of the standardized query from the standardized columns. -/
theorem pay4_apply (x : FVec Ideal S1024x16 .f32) (mr sr : FVec Ideal S1x16 .f32) (kt : FVec Ideal S16x1024 .f32)
    (mc sc : FVec Ideal S16x1 .f32) (μ σ : Fin 16 → EReal) (hmr : ∀ d, mr (ix2 0 d) = μ d) (hsr : ∀ d, sr (ix2 0 d) = σ d)
    (hmc : ∀ d, mc (ix2 d 0) = μ d) (hsc : ∀ d, sc (ix2 d 0) = σ d) (q i : Fin 1024) :
    k0_pay4 (F := Ideal) x mr sr kt mc sc (ix2 q i) = dist (fun d => x (ix2 q d)) (fun d => kt (ix2 d i)) μ σ := by
  unfold k0_pay4
  pointwise
  simp only [hmr, hsr, hmc, hsc, show Ideal.ofBits .f32 1073741824#32 = ((2 : ℝ) : EReal) from word_two]
  rfl

/-- A block's words, as a row. -/
theorem pay5_apply (w : IVec S1x1x1024 32) (i : Fin 1024) : k0_pay5 (F := Ideal) w (ix2 0 i) = w (ix3 0 0 i) := by
  unfold k0_pay5
  pointwise

/-- The kept values at the start. -/
theorem pay2_apply (j : S1024x8.Idx) : k0_pay2 (F := Ideal) j = ⊤ := by
  unfold k0_pay2
  idx_vars j
  pointwise
  simp [Ideal.ofBits, Ideal.ieee, -EReal.coe_mul]

/-- The kept words at the start. -/
theorem pay3_apply (j : S1024x8.Idx) : k0_pay3 j = 1073741824#32 := by
  unfold k0_pay3
  idx_vars j
  pointwise

/-- One vote, as the kernel counts it: the bit "label is class", widened, as a real number. -/
theorem vote_wide (l : BitVec 32) (c : ℕ) :
    FloatOps.sitofp (F := Ideal) .f32 (BitVec.setWidth 32 (IntOp.cmpi .eq l (BitVec.ofNat 32 c))) = vote l c := by
  show ((((BitVec.ofBool (l == BitVec.ofNat 32 c)).setWidth 32).toInt : ℝ) : EReal) = vote l c
  unfold vote
  by_cases h : l = BitVec.ofNat 32 c
  · rw [if_pos h, h]; simp
  · rw [if_neg h, beq_false_of_ne h]; simp

/-- The kernel's result block: the share of the votes of the five kept words' labels (their low four bits). -/
theorem pay1_apply (v : IVec S1024x5 32) (q : Fin 1024) (c : Fin 10) :
    k0_pay1 (F := Ideal) v (ix2 q c) = share (fun t => v (ix2 q t) &&& 15#32) c.val := by
  unfold k0_pay1 share
  pointwise
  simp only [vote_wide, show Ideal.ofBits .f32 1084227584#32 = ((5 : ℝ) : EReal) from word_five, Fin.sum_univ_five]
  rfl

end Cert.KernelIdeal.Knn

end
-- ==== Proof.Step.lean ====
/- One step of the grid, opened: what the kernel keeps after a block, as the merge of what it kept before and the block's
   distances, and what it writes at the last block. -/
module

public import proofs.«01_k».proof.Proof.Gen.KernelIdeal.Value
public import proofs.«01_k».proof.Proof.Rounds
public import proofs.«01_k».proof.Proof.Payload
public import Idealize.ShloMosaic.Lib.Pointwise
public import Idealize.ShloMosaic.Lib.Pipeline.Value
public import Idealize.ShloMosaic.Lib.Pipeline.ValueKit

@[expose] public section

set_option maxRecDepth 16384

noncomputable section

namespace Cert.KernelIdeal.Knn

open Idealize.ShloMosaic Idealize.ShloMosaic.TcCoe Cert.Knn Cert.KernelIdeal Cert.KernelIdeal.Gen Cert.KernelIdeal.Value
  Idealize.SL.Sem

section Kept

variable (d : FVec Ideal S1024x1024 .f32) (w : IVec S1x1024 32) (bd : FVec Ideal S1024x5 .f32) (bi : IVec S1024x5 32)

/-- The values kept after a block, from the block's distances `d` and words `w` and the five values `bd` and words `bi` kept
    before. -/
def keptValues : FVec Ideal S1024x8 .f32 :=
  k0_pay36 (k0_pay22 (k0_pay6 w) (k0_pay8 d w) (k0_pay11 d w) (k0_pay14 d w) (k0_pay15 d w) (k0_pay17 d w) bi) (k0_pay23 (k0_pay6 w) (k0_pay7 d) (k0_pay10 d w) (k0_pay13 d w) (k0_pay15 d w) (k0_pay16 d w) (k0_pay17 d w) bd) (k0_pay26 (k0_pay6 w) (k0_pay7 d) (k0_pay8 d w) (k0_pay10 d w) (k0_pay11 d w) (k0_pay13 d w) (k0_pay14 d w) (k0_pay15 d w) (k0_pay16 d w) (k0_pay17 d w) bd bi) (k0_pay28 (k0_pay6 w) (k0_pay7 d) (k0_pay8 d w) (k0_pay10 d w) (k0_pay11 d w) (k0_pay13 d w) (k0_pay14 d w) (k0_pay15 d w) (k0_pay16 d w) (k0_pay17 d w) bd bi) (k0_pay29 (k0_pay6 w) (k0_pay7 d) (k0_pay8 d w) (k0_pay10 d w) (k0_pay11 d w) (k0_pay13 d w) (k0_pay14 d w) (k0_pay15 d w) (k0_pay16 d w) (k0_pay17 d w) bd bi)

/-- The words kept after a block. -/
def keptWords : IVec S1024x8 32 :=
  k0_pay37 (k0_pay22 (k0_pay6 w) (k0_pay8 d w) (k0_pay11 d w) (k0_pay14 d w) (k0_pay15 d w) (k0_pay17 d w) bi) (k0_pay24 (k0_pay6 w) (k0_pay7 d) (k0_pay8 d w) (k0_pay10 d w) (k0_pay11 d w) (k0_pay13 d w) (k0_pay14 d w) (k0_pay15 d w) (k0_pay16 d w) (k0_pay17 d w) bd bi) (k0_pay27 (k0_pay6 w) (k0_pay7 d) (k0_pay8 d w) (k0_pay10 d w) (k0_pay11 d w) (k0_pay13 d w) (k0_pay14 d w) (k0_pay15 d w) (k0_pay16 d w) (k0_pay17 d w) bd bi) (k0_pay28 (k0_pay6 w) (k0_pay7 d) (k0_pay8 d w) (k0_pay10 d w) (k0_pay11 d w) (k0_pay13 d w) (k0_pay14 d w) (k0_pay15 d w) (k0_pay16 d w) (k0_pay17 d w) bd bi) (k0_pay29 (k0_pay6 w) (k0_pay7 d) (k0_pay8 d w) (k0_pay10 d w) (k0_pay11 d w) (k0_pay13 d w) (k0_pay14 d w) (k0_pay15 d w) (k0_pay16 d w) (k0_pay17 d w) bd bi)

/-- The `t`-th kept value is the least of the candidates left after `t` rounds. -/
theorem keptValues_apply (q : Fin 1024) (t : Fin 5) :
    keptValues d w bd bi (ix2 q (t.castLE (by decide))) = leastValue (candLeft d w bd bi q t.val) :=
  pay36_apply d w bd bi q t

/-- The `t`-th kept word is the one picked among the candidates left after `t` rounds. -/
theorem keptWords_apply (q : Fin 1024) (t : Fin 5) :
    keptWords d w bd bi (ix2 q (t.castLE (by decide))) = pick (candLeft d w bd bi q t.val) (candWord d w bi q) :=
  pay37_apply d w bd bi q t

end Kept

/-- The first five columns of the kept values. -/
def fiveValues (v : FVec Ideal S1024x8 .f32) : FVec Ideal S1024x5 .f32 :=
  View.ld (Val := Elt Ideal) (e' := .f32) (S := S1024x8) v (Rect.unit ![0, 0] ![1024, 5] inb_S1024x8_S1024x5_0_0)

/-- The first five columns of the kept words. -/
def fiveWords (v : IVec S1024x8 32) : IVec S1024x5 32 :=
  View.ld (Val := Elt Ideal) (e' := .i32) (S := S1024x8) v (Rect.unit ![0, 0] ![1024, 5] inb_S1024x8_S1024x5_0_0)

theorem fiveValues_apply (v : FVec Ideal S1024x8 .f32) (q : Fin 1024) (t : Fin 5) :
    fiveValues v (ix2 q t) = v (ix2 q (t.castLE (by decide))) :=
  View.ld_unit_apply_of (Val := Elt Ideal) (e := .f32) (S := S1024x8) v _ _ _ _ _ fun a => by fin_cases a <;> simp

theorem fiveWords_apply (v : IVec S1024x8 32) (q : Fin 1024) (t : Fin 5) :
    fiveWords v (ix2 q t) = v (ix2 q (t.castLE (by decide))) :=
  View.ld_unit_apply_of (Val := Elt Ideal) (e := .i32) (S := S1024x8) v _ _ _ _ _ fun a => by fin_cases a <;> simp

variable (m : (ℓ : Loc nD τ sig) → Buf (Elt Ideal) ℓ) (c : Dev nD)

/-- The distances of block `t`. -/
def blockDist (t : Fin cfg0.N) : FVec Ideal S1024x1024 .f32 :=
  k0_pay4 (iblk m c 0 t) (iblk m c 3 t) (iblk m c 4 t) (iblk m c 1 t) (iblk m c 5 t) (iblk m c 6 t)

/-- The words of block `t`. -/
def blockWord (t : Fin cfg0.N) : IVec S1x1024 32 := k0_pay5 (F := Ideal) (iblk m c 2 t)

/-- The first step: the kept values and words start over, then take in the block. -/
theorem step_first (t : Fin cfg0.N) (acc : Vec Ideal S1024x10 .f32 × Vec Ideal S1024x8 .f32 × Vec Ideal S1024x8 .i32)
    (h0 : t.val % 98 = 0) (h1 : ¬t.val % 98 = 97) :
    (stAt0 m c t.val t.isLt acc).2 =
      (keptValues (blockDist m c t) (blockWord m c t) (fiveValues (k0_pay2 (F := Ideal))) (fiveWords k0_pay3),
        keptWords (blockDist m c t) (blockWord m c t) (fiveValues (k0_pay2 (F := Ideal))) (fiveWords k0_pay3)) := by
  rw [stAt0_A m c t acc h0 h1]
  dsimp only
  refine Prod.ext ?_ ?_
  · dsimp only
    frame_out [View.readCov_eq_canon']
    rfl
  · dsimp only
    frame_out [View.readCov_eq_canon']
    rfl

/-- A later step: the kept values and words take in the block. -/
theorem step_mid (t : Fin cfg0.N) (acc : Vec Ideal S1024x10 .f32 × Vec Ideal S1024x8 .f32 × Vec Ideal S1024x8 .i32)
    (h0 : ¬t.val % 98 = 0) (h1 : ¬t.val % 98 = 97) :
    (stAt0 m c t.val t.isLt acc).2 =
      (keptValues (blockDist m c t) (blockWord m c t) (fiveValues acc.2.1) (fiveWords acc.2.2),
        keptWords (blockDist m c t) (blockWord m c t) (fiveValues acc.2.1) (fiveWords acc.2.2)) := by
  rw [stAt0_B m c t acc h0 h1]
  dsimp only
  have e0 : View.read (Elt Ideal) (View.whole cc0_scratch0) ((Memref.isWhole_whole cc0_scratch0).unread (Val := Elt Ideal) acc.2.1) = acc.2.1 :=
    (Memref.isWhole_whole cc0_scratch0).read_unread (Val := Elt Ideal) acc.2.1
  have e1 : View.read (Elt Ideal) (View.whole cc0_scratch1) ((Memref.isWhole_whole cc0_scratch1).unread (Val := Elt Ideal) acc.2.2) = acc.2.2 :=
    (Memref.isWhole_whole cc0_scratch1).read_unread (Val := Elt Ideal) acc.2.2
  refine Prod.ext ?_ ?_
  · dsimp only
    frame_out [e0, e1]
    rfl
  · dsimp only
    frame_out [e0, e1]
    rfl

/-- The last step writes the shares of the votes of the words it keeps. -/
theorem step_last (t : Fin cfg0.N) (acc : Vec Ideal S1024x10 .f32 × Vec Ideal S1024x8 .f32 × Vec Ideal S1024x8 .i32)
    (h0 : ¬t.val % 98 = 0) (h1 : t.val % 98 = 97) :
    (stAt0 m c t.val t.isLt acc).1 =
      k0_pay1 (F := Ideal) (fiveWords (keptWords (blockDist m c t) (blockWord m c t) (fiveValues acc.2.1) (fiveWords acc.2.2))) := by
  rw [stAt0_C m c t acc h0 h1]
  dsimp only
  have e0 : View.read (Elt Ideal) (View.whole cc0_scratch0) ((Memref.isWhole_whole cc0_scratch0).unread (Val := Elt Ideal) acc.2.1) = acc.2.1 :=
    (Memref.isWhole_whole cc0_scratch0).read_unread (Val := Elt Ideal) acc.2.1
  have e1 : View.read (Elt Ideal) (View.whole cc0_scratch1) ((Memref.isWhole_whole cc0_scratch1).unread (Val := Elt Ideal) acc.2.2) = acc.2.2 :=
    (Memref.isWhole_whole cc0_scratch1).read_unread (Val := Elt Ideal) acc.2.2
  frame_out [e0, e1, View.readCov_eq_canon']
  rfl

end Cert.KernelIdeal.Knn

end
-- ==== Proof.Fold.lean ====
/- One block taken in: from the five first of the columns before a block, the merge gives the five first of the columns up to
   the block's end. -/
module

public import proofs.«01_k».proof.Proof.Rounds

@[expose] public section

set_option maxRecDepth 16384

noncomputable section

namespace Cert.KernelIdeal.Knn

open Idealize.ShloMosaic Cert.Knn Cert.KernelIdeal

/-- The block's own five rounds: five different columns of the block, before every other column of it. -/
theorem block_five (D : ℕ → EReal) (P : ℕ → BitVec 32) (n : ℕ) (hD : ∀ j < 1024 * (n + 1), D j < ⊤)
    (hP : ∀ j < 1024 * (n + 1), (P j).toInt ≤ 1073741824)
    (hPinj : ∀ i < 1024 * (n + 1), ∀ j < 1024 * (n + 1), P i = P j → i = j)
    (d : FVec Ideal S1024x1024 .f32) (w : IVec S1x1024 32) (q : Fin 1024)
    (hd : ∀ i : Fin 1024, d (ix2 q i) = D (1024 * n + i.val)) (hw : ∀ i : Fin 1024, w (ix2 0 i) = P (1024 * n + i.val)) :
    ∃ g : Fin 5 → ℕ, Function.Injective g ∧ (∀ t, 1024 * n ≤ g t ∧ g t < 1024 * (n + 1))
      ∧ (∀ t : Fin 5, bestValue d w q t.val = D (g t) ∧ bestWord d w q t.val = P (g t))
      ∧ ∀ j, 1024 * n ≤ j → j < 1024 * (n + 1) → (∀ t, j ≠ g t) → ∀ t, key (D (g t)) (P (g t)) < key (D j) (P j) := by
  have lt : ∀ i : Fin 1024, 1024 * n + i.val < 1024 * (n + 1) := fun i => by have := i.isLt; omega
  have hv : (fun i : Fin 1024 => d (ix2 q i)) = fun i => D (1024 * n + i.val) := funext hd
  have hp : (fun i : Fin 1024 => w (ix2 0 i)) = fun i => P (1024 * n + i.val) := funext hw
  obtain ⟨s, h1, -, h3, h4, -, -⟩ := rounds_eq (fun i : Fin 1024 => D (1024 * n + i.val)) (fun i => P (1024 * n + i.val))
    (fun j _ => hP _ (lt j)) (fun i j _ _ e => Fin.ext (by have := hPinj _ (lt i) _ (lt j) e; omega)) 5 (by
      rw [Finset.filter_true_of_mem fun j _ => hD _ (lt j)]
      simp)
  refine ⟨fun t => 1024 * n + (s t.val).val, ?_, fun t => ⟨Nat.le_add_right _ _, lt _⟩, fun t => ?_, ?_⟩
  · intro t u e
    exact Fin.ext (h1 t.val t.isLt u.val u.isLt (Fin.ext (by simpa using e)))
  · unfold bestValue bestWord left
    rw [hv, hp]
    exact h3 t.val t.isLt
  · intro j hj1 hj2 hj t
    have e : 1024 * n + (j - 1024 * n) = j := by omega
    have := h4 ⟨j - 1024 * n, by omega⟩ (hD _ (lt _)) (fun t ht e' => hj ⟨t, ht⟩ (by
      have := congrArg Fin.val e'; show j = 1024 * n + (s t).val; simp only at this; omega)) t.val t.isLt
    simpa only [e] using this

/-- The block taken in. -/
theorem merge_block (D : ℕ → EReal) (P : ℕ → BitVec 32) (n : ℕ) (hD : ∀ j < 1024 * (n + 1), D j < ⊤)
    (hP : ∀ j < 1024 * (n + 1), (P j).toInt ≤ 1073741824)
    (hPinj : ∀ i < 1024 * (n + 1), ∀ j < 1024 * (n + 1), P i = P j → i = j)
    (d : FVec Ideal S1024x1024 .f32) (w : IVec S1x1024 32) (bd : FVec Ideal S1024x5 .f32) (bi : IVec S1024x5 32) (q : Fin 1024)
    (hd : ∀ i : Fin 1024, d (ix2 q i) = D (1024 * n + i.val)) (hw : ∀ i : Fin 1024, w (ix2 0 i) = P (1024 * n + i.val))
    (hk : (n = 0 ∧ ∀ t : Fin 5, bd (ix2 q t) = ⊤) ∨ ∃ f, First5 (fun j => key (D j) (P j)) (1024 * n) f
      ∧ ∀ t : Fin 5, bd (ix2 q t) = D (f t) ∧ bi (ix2 q t) = P (f t)) :
    ∃ f, First5 (fun j => key (D j) (P j)) (1024 * (n + 1)) f
      ∧ ∀ t : Fin 5, leastValue (candLeft d w bd bi q t.val) = D (f t)
        ∧ pick (candLeft d w bd bi q t.val) (candWord d w bi q) = P (f t) := by
  obtain ⟨g, g1, g2, g3, g4⟩ := block_five D P n hD hP hPinj d w q hd hw
  have vlast : ∀ t : Fin 5, candValue d w bd q (Fin.natAdd 5 t) = D (g t) := fun t => by
    have := (g3 t).1
    simp [candValue, this]
  have plast : ∀ t : Fin 5, candWord d w bi q (Fin.natAdd 5 t) = P (g t) := fun t => by
    have := (g3 t).2
    simp [candWord, this]
  have vfirst : ∀ t : Fin 5, candValue d w bd q (Fin.castAdd 5 t) = bd (ix2 q t) := fun t => by
    simp [candValue]
  have pfirst : ∀ t : Fin 5, candWord d w bi q (Fin.castAdd 5 t) = bi (ix2 q t) := fun t => by
    simp [candWord]
  have llast : ∀ t : Fin 5, candValue d w bd q (Fin.natAdd 5 t) < ⊤ := fun t => by
    rw [vlast]; exact hD _ (g2 t).2
  have hcard : 5 ≤ (Finset.univ.filter fun j => candValue d w bd q j < ⊤).card := by
    have hs : Finset.univ.image (Fin.natAdd 5 : Fin 5 → Fin 10) ⊆ Finset.univ.filter fun j => candValue d w bd q j < ⊤ := by
      intro x hx
      obtain ⟨t, -, rfl⟩ := Finset.mem_image.1 hx
      exact Finset.mem_filter.2 ⟨Finset.mem_univ _, llast t⟩
    have := Finset.card_le_card hs
    rwa [Finset.card_image_of_injective _ (Fin.natAdd_injective 5 5), Finset.card_univ, Fintype.card_fin] at this
  have split : ∀ i : Fin 10, (∃ t : Fin 5, i = Fin.castAdd 5 t) ∨ ∃ t : Fin 5, i = Fin.natAdd 5 t := fun i => by
    rcases lt_or_ge i.val 5 with h | h
    · exact .inl ⟨⟨i.val, h⟩, rfl⟩
    · exact .inr ⟨⟨i.val - 5, by have := i.isLt; omega⟩, Fin.ext (by simp; omega)⟩
  have cov : ∀ h : Fin 10 → ℕ, (∀ t, h (Fin.natAdd 5 t) = g t) → ∀ j, 1024 * n ≤ j → j < 1024 * (n + 1) →
      (∀ i, candValue d w bd q i < ⊤ → j ≠ h i) → ∃ a : Fin 5 → Fin 10, Function.Injective a
        ∧ (∀ t, candValue d w bd q (a t) < ⊤) ∧ ∀ t, key (D (h (a t))) (P (h (a t))) < key (D j) (P j) := by
    intro h hh j hj1 hj2 hj
    refine ⟨Fin.natAdd 5, Fin.natAdd_injective 5 5, llast, fun t => ?_⟩
    rw [hh]
    exact g4 j hj1 hj2 (fun t => by rw [← hh]; exact hj _ (llast t)) t
  rcases hk with ⟨hn, hb⟩ | ⟨f, hf, hb⟩
  · have dead : ∀ t : Fin 5, ¬ candValue d w bd q (Fin.castAdd 5 t) < ⊤ := fun t => by
      rw [vfirst, hb]; exact lt_irrefl _
    let h : Fin 10 → ℕ := Fin.append (fun _ : Fin 5 => 0) g
    have hl : ∀ t, h (Fin.natAdd 5 t) = g t := fun t => Fin.append_right _ _ t
    refine merge_eq D P (1024 * (n + 1)) hP hPinj (candValue d w bd q) (candWord d w bi q) h ?_ ?_ ?_ ?_ hcard ?_
    · intro i hi
      rcases split i with ⟨t, rfl⟩ | ⟨t, rfl⟩
      · exact absurd hi (dead t)
      · rw [hl]; exact (g2 t).2
    · intro i hi
      rcases split i with ⟨t, rfl⟩ | ⟨t, rfl⟩
      · exact absurd hi (dead t)
      · rw [hl, vlast]
    · intro i hi
      rcases split i with ⟨t, rfl⟩ | ⟨t, rfl⟩
      · exact absurd hi (dead t)
      · rw [hl, plast]
    · intro i j hi hj
      rcases split i with ⟨t, rfl⟩ | ⟨t, rfl⟩
      · exact absurd hi (dead t)
      rcases split j with ⟨u, rfl⟩ | ⟨u, rfl⟩
      · exact absurd hj (dead u)
      rw [hl, hl]
      intro e
      rw [g1 e]
    · intro j hj
      exact cov h hl j (by omega) hj
  · let h : Fin 10 → ℕ := Fin.append f g
    have hl : ∀ t, h (Fin.natAdd 5 t) = g t := fun t => Fin.append_right _ _ t
    have hr : ∀ t, h (Fin.castAdd 5 t) = f t := fun t => Fin.append_left _ _ t
    have lfirst : ∀ t : Fin 5, candValue d w bd q (Fin.castAdd 5 t) < ⊤ := fun t => by
      rw [vfirst, (hb t).1]; exact hD _ ((hf.2.1 t).trans (by omega))
    refine merge_eq D P (1024 * (n + 1)) hP hPinj (candValue d w bd q) (candWord d w bi q) h ?_ ?_ ?_ ?_ hcard ?_
    · intro i _
      rcases split i with ⟨t, rfl⟩ | ⟨t, rfl⟩
      · rw [hr]; exact (hf.2.1 t).trans (by omega)
      · rw [hl]; exact (g2 t).2
    · intro i _
      rcases split i with ⟨t, rfl⟩ | ⟨t, rfl⟩
      · rw [hr, vfirst, (hb t).1]
      · rw [hl, vlast]
    · intro i _
      rcases split i with ⟨t, rfl⟩ | ⟨t, rfl⟩
      · rw [hr, pfirst, (hb t).2]
      · rw [hl, plast]
    · intro i j _ _
      rcases split i with ⟨t, rfl⟩ | ⟨t, rfl⟩ <;> rcases split j with ⟨u, rfl⟩ | ⟨u, rfl⟩
      · rw [hr, hr]; intro e; rw [hf.1 e]
      · rw [hr, hl]; intro e; have := hf.2.1 t; have := (g2 u).1; omega
      · rw [hl, hr]; intro e; have := hf.2.1 u; have := (g2 t).1; omega
      · rw [hl, hl]; intro e; rw [g1 e]
    · intro j hj hne
      rcases lt_or_ge j (1024 * n) with hjn | hjn
      · refine ⟨Fin.castAdd 5, Fin.castAdd_injective 5 5, lfirst, fun t => ?_⟩
        rw [hr]
        exact hf.2.2 j hjn (fun t => by rw [← hr]; exact hne _ (lfirst t)) t
      · exact cov h hl j hjn hj hne

end Cert.KernelIdeal.Knn

end
-- ==== Proof.Host.lean ====
/- What the host hands the kernel: the training rows as columns, padded to 100352 with the far point, and each column's word,
   its position shifted by four bits with its label in the low four; and what block `t` of each array is. -/
module

public import proofs.«01_k».proof.Proof.Gen.KernelIdeal.Value
public import Idealize.ShloMosaic.Lib.Pointwise
public import Idealize.ShloMosaic.Lib.Pipeline.Value
public import Idealize.ShloMosaic.Lib.Pipeline.ValueKit
public import Idealize.ShloMosaic.Lib.Claim

@[expose] public section

set_option maxRecDepth 16384

noncomputable section

namespace Cert.KernelIdeal.Knn

open Idealize.ShloMosaic Idealize.ShloMosaic.TcCoe Cert.KernelIdeal Cert.KernelIdeal.Gen Idealize.SL.Sem

/-- Feature `d` of column `n`: that of training row `n`, or the far point's beyond the last row. -/
def column (x1 : FVec Ideal S100000x16 .f32) (n : ℕ) (d : Fin 16) : EReal :=
  if h : n < 100000 then x1 (ix2 ⟨n, h⟩ d) else ((1000000 : ℝ) : EReal)

/-- The label of column `n`: that of training row `n`, or zero beyond the last row. -/
def label (x2 : IVec S100000 32) (n : ℕ) : BitVec 32 := if h : n < 100000 then x2 (ix1 ⟨n, h⟩) else 0#32

/-- The word of column `n`: its position over its label. -/
def word (x2 : IVec S100000 32) (n : ℕ) : BitVec 32 := (BitVec.ofNat 32 n <<< 4) ||| label x2 n

variable (m : (ℓ : Loc nD τ sig) → Buf (Elt Ideal) ℓ) (c : Dev nD)

/-- The binary32 word of one million. -/
theorem word_million : Ideal.ofBits .f32 1232348160#32 = ((1000000 : ℝ) : EReal) := by
  simp [Ideal.ofBits, Ideal.ieee, -EReal.coe_mul]
  norm_num

/-- The host's padded columns. -/
theorem columns_apply (x : FVec Ideal S100000x16 .f32) (d : Fin 16) (n : Fin 100352) :
    pad S16x100352 ![0, 0] ![0, 352] ![0, 0] (transpose S16x100000 [1, 0] x transposes_S100000x16_S16x100000_1_0)
      (constant (F := Ideal) S_ FTy.f32 1232348160#32) pads_S16x100000_S16x100352_000_03520 h_S_ (ix2 d n) = column x n.val d := by
  pointwise
  rw [word_million]
  rfl

/-- The host's words, block by block. -/
theorem words_apply (x : IVec S100000 32) (t : Fin 98) (i : Fin 1024) :
    shapeCast S98x1x1024
      (ori (Host.shli (iotaInDim S100352 32 0) (broadcastInDim S100352 ![] bcast_S_S100352 (constantI S_ 32 4#32)))
          (pad S100352 ![0] ![352] ![0] x (constantI S_ 32 0#32) pads_S100000_S100352_03520 h_S_))
      shapeCasts_S100352_S98x1x1024 (ix3 t 0 i) = word x (1024 * t.val + i.val) := by
  pointwise
  rw [Nat.mul_comm 1024 t.val]
  unfold word label
  rfl

/-- The columns at the kernel's entry. -/
theorem entry_columns (d : Fin 16) (n : Fin 100352) :
    (V m c main_v1 : FVec Ideal S16x100352 .f32) (ix2 d n) = column (m (c, Proc.tc.devRef main_arg1)) n.val d := by
  unfold V hostOps0 hostOps0_1 hostOps0_2 hostOps0_3 hostOps0_4
  simp only [List.flatten_cons, List.flatten_nil, List.append_nil, List.cons_append, List.nil_append]
  entry_read
  exact columns_apply (m (c, Proc.tc.devRef main_arg1)) d n

/-- The words at the kernel's entry. -/
theorem entry_words (t : Fin 98) (i : Fin 1024) :
    (V m c main_v7 : IVec S98x1x1024 32) (ix3 t 0 i) = word (m (c, Proc.tc.devRef main_arg2)) (1024 * t.val + i.val) := by
  unfold V hostOps0 hostOps0_1 hostOps0_2 hostOps0_3 hostOps0_4
  simp only [List.flatten_cons, List.flatten_nil, List.append_nil, List.cons_append, List.nil_append]
  entry_read
  exact words_apply (m (c, Proc.tc.devRef main_arg2)) t i

/-- The means as a row. -/
theorem entry_row3 (d : Fin 16) : (V m c main_v8 : FVec Ideal S1x16 .f32) (ix2 0 d) = m (c, Proc.tc.devRef main_arg3) (ix1 d) := by
  unfold V hostOps0 hostOps0_1 hostOps0_2 hostOps0_3 hostOps0_4
  simp only [List.flatten_cons, List.flatten_nil, List.append_nil, List.cons_append, List.nil_append]
  entry_read
  show shapeCast S1x16 (m (c, Proc.tc.devRef main_arg3)) shapeCasts_S16_S1x16 (ix2 0 d) = _
  generalize (m (c, Proc.tc.devRef main_arg3)) = x
  pointwise

/-- The deviations as a row. -/
theorem entry_row4 (d : Fin 16) : (V m c main_v9 : FVec Ideal S1x16 .f32) (ix2 0 d) = m (c, Proc.tc.devRef main_arg4) (ix1 d) := by
  unfold V hostOps0 hostOps0_1 hostOps0_2 hostOps0_3 hostOps0_4
  simp only [List.flatten_cons, List.flatten_nil, List.append_nil, List.cons_append, List.nil_append]
  entry_read
  show shapeCast S1x16 (m (c, Proc.tc.devRef main_arg4)) shapeCasts_S16_S1x16 (ix2 0 d) = _
  generalize (m (c, Proc.tc.devRef main_arg4)) = x
  pointwise

/-- The means as a column. -/
theorem entry_col3 (d : Fin 16) : (V m c main_v10 : FVec Ideal S16x1 .f32) (ix2 d 0) = m (c, Proc.tc.devRef main_arg3) (ix1 d) := by
  unfold V hostOps0 hostOps0_1 hostOps0_2 hostOps0_3 hostOps0_4
  simp only [List.flatten_cons, List.flatten_nil, List.append_nil, List.cons_append, List.nil_append]
  entry_read
  show shapeCast S16x1 (m (c, Proc.tc.devRef main_arg3)) shapeCasts_S16_S16x1 (ix2 d 0) = _
  generalize (m (c, Proc.tc.devRef main_arg3)) = x
  pointwise

/-- The deviations as a column. -/
theorem entry_col4 (d : Fin 16) : (V m c main_v11 : FVec Ideal S16x1 .f32) (ix2 d 0) = m (c, Proc.tc.devRef main_arg4) (ix1 d) := by
  unfold V hostOps0 hostOps0_1 hostOps0_2 hostOps0_3 hostOps0_4
  simp only [List.flatten_cons, List.flatten_nil, List.append_nil, List.cons_append, List.nil_append]
  entry_read
  show shapeCast S16x1 (m (c, Proc.tc.devRef main_arg4)) shapeCasts_S16_S16x1 (ix2 d 0) = _
  generalize (m (c, Proc.tc.devRef main_arg4)) = x
  pointwise

/-- The query window stays on its one block. -/
theorem index_0 : ∀ t : Fin cfg0.N, win0_0.index t = ![0, 0] := by decide +kernel
/-- The columns' window is on block `t` at step `t`. -/
theorem index_1 : ∀ t : Fin cfg0.N, win0_1.index t = ![0, t.val] := by decide +kernel
/-- The words' window is on block `t` at step `t`. -/
theorem index_2 : ∀ t : Fin cfg0.N, win0_2.index t = ![t.val, 0, 0] := by decide +kernel
/-- Window 3 stays on its one block. -/
theorem index_3 : ∀ t : Fin cfg0.N, win0_3.index t = ![0, 0] := by decide +kernel
/-- Window 4 stays on its one block. -/
theorem index_4 : ∀ t : Fin cfg0.N, win0_4.index t = ![0, 0] := by decide +kernel
/-- Window 5 stays on its one block. -/
theorem index_5 : ∀ t : Fin cfg0.N, win0_5.index t = ![0, 0] := by decide +kernel
/-- Window 6 stays on its one block. -/
theorem index_6 : ∀ t : Fin cfg0.N, win0_6.index t = ![0, 0] := by decide +kernel

/-- The query block is the queries. -/
theorem block_query (t : Fin cfg0.N) (q : Fin 1024) (d : Fin 16) :
    (iblk m c 0 t : FVec Ideal S1024x16 .f32) (ix2 q d) = m (c, Proc.tc.devRef main_arg0) (ix2 q d) := by
  blk_simp [iblk]
  rw [V_main_arg0]
  refine congrArg (m (c, Proc.tc.devRef main_arg0)) ?_
  funext a; apply Fin.ext
  fin_cases a <;> blk_simp [index_0] <;> simp

/-- Block `t` of the columns. -/
theorem block_column (t : Fin cfg0.N) (d : Fin 16) (i : Fin 1024) :
    (iblk m c 1 t : FVec Ideal S16x1024 .f32) (ix2 d i) = column (m (c, Proc.tc.devRef main_arg1)) (1024 * t.val + i.val) d := by
  have ht : t.val < 98 := t.isLt
  have hi : i.val < 1024 := i.isLt
  rw [show column (m (c, Proc.tc.devRef main_arg1)) (1024 * t.val + i.val) d = _ from
    (entry_columns m c d ⟨1024 * t.val + i.val, by omega⟩).symm]
  blk_simp [iblk]
  refine congrArg (V m c main_v1) ?_
  funext a; apply Fin.ext
  fin_cases a <;> blk_simp [index_1] <;> simp
  omega

/-- Block `t` of the words. -/
theorem block_word (t : Fin cfg0.N) (i : Fin 1024) :
    (iblk m c 2 t : IVec S1x1x1024 32) (ix3 0 0 i) = word (m (c, Proc.tc.devRef main_arg2)) (1024 * t.val + i.val) := by
  rw [show word (m (c, Proc.tc.devRef main_arg2)) (1024 * t.val + i.val) = _ from (entry_words m c (t.cast N_0) i).symm]
  blk_simp [iblk]
  refine congrArg (V m c main_v7) ?_
  funext a; apply Fin.ext
  fin_cases a <;> blk_simp [index_2] <;> simp

/-- The means, as a row. -/
theorem block_row3 (t : Fin cfg0.N) (d : Fin 16) :
    (iblk m c 3 t : FVec Ideal S1x16 .f32) (ix2 0 d) = m (c, Proc.tc.devRef main_arg3) (ix1 d) := by
  rw [← entry_row3 m c d]
  blk_simp [iblk]
  refine congrArg (V m c main_v8) ?_
  funext a; apply Fin.ext
  fin_cases a <;> blk_simp [index_3] <;> simp

/-- The deviations, as a row. -/
theorem block_row4 (t : Fin cfg0.N) (d : Fin 16) :
    (iblk m c 4 t : FVec Ideal S1x16 .f32) (ix2 0 d) = m (c, Proc.tc.devRef main_arg4) (ix1 d) := by
  rw [← entry_row4 m c d]
  blk_simp [iblk]
  refine congrArg (V m c main_v9) ?_
  funext a; apply Fin.ext
  fin_cases a <;> blk_simp [index_4] <;> simp

/-- The means, as a column. -/
theorem block_col3 (t : Fin cfg0.N) (d : Fin 16) :
    (iblk m c 5 t : FVec Ideal S16x1 .f32) (ix2 d 0) = m (c, Proc.tc.devRef main_arg3) (ix1 d) := by
  rw [← entry_col3 m c d]
  blk_simp [iblk]
  refine congrArg (V m c main_v10) ?_
  funext a; apply Fin.ext
  fin_cases a <;> blk_simp [index_5] <;> simp

/-- The deviations, as a column. -/
theorem block_col4 (t : Fin cfg0.N) (d : Fin 16) :
    (iblk m c 6 t : FVec Ideal S16x1 .f32) (ix2 d 0) = m (c, Proc.tc.devRef main_arg4) (ix1 d) := by
  rw [← entry_col4 m c d]
  blk_simp [iblk]
  refine congrArg (V m c main_v11) ?_
  funext a; apply Fin.ext
  fin_cases a <;> blk_simp [index_6] <;> simp

end Cert.KernelIdeal.Knn

end
-- ==== Proof.Words.lean ====
/- The kernel's words: a position over a label of four bits. As numbers they are `16 n + l`: different positions have
   different words, an earlier position has the smaller word, and the low four bits give the label back. -/
module

public import proofs.«01_k».proof.Proof.Host
public import proofs.«01_k».proof.Proof.Select

@[expose] public section

noncomputable section

namespace Cert.KernelIdeal.Knn

open Idealize.ShloMosaic Cert.Knn Cert.KernelIdeal

/-- A label is a number below sixteen. -/
def IsLabels (x2 : IVec S100000 32) : Prop := ∀ n, (label x2 n).toNat < 16

theorem word_toNat (x2 : IVec S100000 32) (hx : IsLabels x2) (n : ℕ) (hn : n < 100352) :
    (word x2 n).toNat = 16 * n + (label x2 n).toNat := by
  have h := hx n
  unfold word
  rw [BitVec.toNat_or, BitVec.toNat_shiftLeft, BitVec.toNat_ofNat, Nat.mod_eq_of_lt (a := n) (by omega), Nat.mod_eq_of_lt (by
    rw [Nat.shiftLeft_eq]; omega), ← Nat.shiftLeft_add_eq_or_of_lt (i := 4) (by omega), Nat.shiftLeft_eq]
  omega

theorem word_toInt (x2 : IVec S100000 32) (hx : IsLabels x2) (n : ℕ) (hn : n < 100352) :
    (word x2 n).toInt = 16 * (n : ℤ) + (label x2 n).toNat := by
  have h := hx n
  rw [BitVec.toInt_eq_toNat_of_lt (by rw [word_toNat x2 hx n hn]; omega), word_toNat x2 hx n hn]
  push_cast
  rfl

/-- Every word is at most `2 ^ 30`. -/
theorem word_le (x2 : IVec S100000 32) (hx : IsLabels x2) (n : ℕ) (hn : n < 100352) : (word x2 n).toInt ≤ 1073741824 := by
  have h := hx n
  rw [word_toInt x2 hx n hn]; omega

/-- An earlier position has the smaller word. -/
theorem word_lt (x2 : IVec S100000 32) (hx : IsLabels x2) (n n' : ℕ) (h : n < n') (hn : n' < 100352) :
    (word x2 n).toInt < (word x2 n').toInt := by
  have h1 := hx n
  have h2 := hx n'
  rw [word_toInt x2 hx n (by omega), word_toInt x2 hx n' hn]; omega

/-- Different positions have different words. -/
theorem word_inj (x2 : IVec S100000 32) (hx : IsLabels x2) (n n' : ℕ) (hn : n < 100352) (hn' : n' < 100352)
    (e : word x2 n = word x2 n') : n = n' := by
  rcases lt_trichotomy n n' with h | h | h
  · exact absurd (congrArg BitVec.toInt e) (word_lt x2 hx n n' h hn').ne
  · exact h
  · exact absurd (congrArg BitVec.toInt e) (word_lt x2 hx n' n h hn).ne'

/-- The low four bits of a word are its label. -/
theorem word_and (x2 : IVec S100000 32) (hx : IsLabels x2) (n : ℕ) (hn : n < 100352) : word x2 n &&& 15#32 = label x2 n := by
  have h := hx n
  apply BitVec.eq_of_toNat_eq
  rw [BitVec.toNat_and, word_toNat x2 hx n hn, show (15#32).toNat = 2 ^ 4 - 1 from rfl, Nat.and_two_pow_sub_one_eq_mod]
  omega

/-- The five first of a range are the five first of a shorter one, if the positions left out come after all others. -/
theorem First5.restrict {κ : Type} [Preorder κ] {K : ℕ → κ} {M N : ℕ} {f : Fin 5 → ℕ} (hf : First5 K M f) (hN : 5 ≤ N)
    (hNM : N ≤ M) (h : ∀ j < N, ∀ i < M, N ≤ i → K j < K i) : First5 K N f := by
  refine ⟨hf.1, fun t => ?_, fun j hj => hf.2.2 j (hj.trans_le hNM)⟩
  by_contra hc
  obtain ⟨r, hr⟩ := exists_missing (fun r : Fin 5 => r.val) f Fin.val_injective t hf.1 (fun r e => by
    have := r.isLt; omega)
  have hrN : r.val < N := r.isLt.trans_le hN
  exact lt_asymm (hf.2.2 r.val (hrN.trans_le hNM) hr t) (h r.val hrN (f t) (hf.2.1 t) (by omega))

end Cert.KernelIdeal.Knn

end
-- ==== Proof.Sweep.lean ====
/- The whole grid: after block `n` the kernel keeps, for every query, the five first of the first `1024 (n + 1)` columns, and
   the last block writes the shares of their labels. -/
module

public import proofs.«01_k».proof.Proof.Step
public import proofs.«01_k».proof.Proof.Fold
public import proofs.«01_k».proof.Proof.Words

@[expose] public section

set_option maxRecDepth 16384

noncomputable section

namespace Cert.KernelIdeal.Knn

open Idealize.ShloMosaic Idealize.ShloMosaic.TcCoe Cert.Knn Cert.KernelIdeal Cert.KernelIdeal.Gen Cert.KernelIdeal.Value
  Idealize.SL.Sem

/-- The distance of query `q` from column `n`. -/
def colDist (x0 : FVec Ideal S1024x16 .f32) (x1 : FVec Ideal S100000x16 .f32) (x3 x4 : FVec Ideal S16 .f32) (q : Fin 1024)
    (n : ℕ) : EReal :=
  dist (fun d => x0 (ix2 q d)) (column x1 n) (fun d => x3 (ix1 d)) (fun d => x4 (ix1 d))

variable (m : (ℓ : Loc nD τ sig) → Buf (Elt Ideal) ℓ) (c : Dev nD)

/-- The distance of query `q` from column `n`, of the launch's arguments. -/
def D (q : Fin 1024) (n : ℕ) : EReal :=
  colDist (m (c, Proc.tc.devRef main_arg0)) (m (c, Proc.tc.devRef main_arg1)) (m (c, Proc.tc.devRef main_arg3))
    (m (c, Proc.tc.devRef main_arg4)) q n

/-- The word of column `n`, of the launch's arguments. -/
def P (n : ℕ) : BitVec 32 := word (m (c, Proc.tc.devRef main_arg2)) n

/-- Block `t`'s distances are the columns'. -/
theorem blockDist_apply (t : Fin cfg0.N) (q i : Fin 1024) : blockDist m c t (ix2 q i) = D m c q (1024 * t.val + i.val) := by
  unfold blockDist D colDist
  rw [pay4_apply _ _ _ _ _ _ (fun d => m (c, Proc.tc.devRef main_arg3) (ix1 d)) (fun d => m (c, Proc.tc.devRef main_arg4) (ix1 d))
    (block_row3 m c t) (block_row4 m c t) (block_col3 m c t) (block_col4 m c t)]
  rw [show (fun d => (iblk m c 0 t : FVec Ideal S1024x16 .f32) (ix2 q d)) = fun d => m (c, Proc.tc.devRef main_arg0) (ix2 q d) from
      funext (block_query m c t q),
    show (fun d => (iblk m c 1 t : FVec Ideal S16x1024 .f32) (ix2 d i)) = column (m (c, Proc.tc.devRef main_arg1)) (1024 * t.val + i.val) from
      funext fun d => block_column m c t d i]

/-- Block `t`'s words are the columns'. -/
theorem blockWord_apply (t : Fin cfg0.N) (i : Fin 1024) : blockWord m c t (ix2 0 i) = P m c (1024 * t.val + i.val) := by
  unfold blockWord P
  rw [pay5_apply]
  exact block_word m c t i

/-- The five first of the first `N` columns, for query `q`. -/
def Nearest (q : Fin 1024) (N : ℕ) (f : Fin 5 → ℕ) : Prop := First5 (fun j => key (D m c q j) (P m c j)) N f

/-- What the kernel holds after block `n`. -/
def held (n : ℕ) (h : 0 + n < cfg0.N) : Vec Ideal S1024x10 .f32 × Vec Ideal S1024x8 .f32 × Vec Ideal S1024x8 .i32 :=
  Pipeline.accAt (fun n h => stAt0 m c n h junk0) (stAt0 m c) 0 n h

/-- One step at equal positions. -/
theorem stAt0_congr (a b : ℕ) (e : a = b) (ha : a < cfg0.N) (hb : b < cfg0.N)
    (acc : Vec Ideal S1024x10 .f32 × Vec Ideal S1024x8 .f32 × Vec Ideal S1024x8 .i32) :
    stAt0 m c a ha acc = stAt0 m c b hb acc := by
  subst e; rfl

/-- What the kernel holds after the first block is one step. -/
theorem held_zero (h : 0 + 0 < cfg0.N) (h' : 0 < cfg0.N) : held m c 0 h = stAt0 m c 0 h' junk0 := by
  unfold held
  rw [Pipeline.accAt_zero]

/-- What the kernel holds after a later block is one step from what it held before. -/
theorem held_succ (n : ℕ) (h : 0 + (n + 1) < cfg0.N) (h' : n + 1 < cfg0.N) (h0 : 0 + n < cfg0.N) :
    held m c (n + 1) h = stAt0 m c (n + 1) h' (held m c n h0) := by
  unfold held
  rw [Pipeline.accAt_succ]
  exact stAt0_congr m c _ _ (Nat.zero_add _) _ _ _

variable (hD : ∀ q, ∀ j < 100352, D m c q j < ⊤) (hx : IsLabels (m (c, Proc.tc.devRef main_arg2)))

include hD hx in
/-- One block's merge, over what the kernel kept before. -/
theorem take_in (t : Fin cfg0.N) (bd : FVec Ideal S1024x5 .f32) (bi : IVec S1024x5 32) (q : Fin 1024)
    (hk : (t.val = 0 ∧ ∀ r : Fin 5, bd (ix2 q r) = ⊤) ∨ ∃ f, Nearest m c q (1024 * t.val) f
      ∧ ∀ r : Fin 5, bd (ix2 q r) = D m c q (f r) ∧ bi (ix2 q r) = P m c (f r)) :
    ∃ f, Nearest m c q (1024 * (t.val + 1)) f
      ∧ ∀ r : Fin 5, keptValues (blockDist m c t) (blockWord m c t) bd bi (ix2 q (r.castLE (by decide))) = D m c q (f r)
        ∧ keptWords (blockDist m c t) (blockWord m c t) bd bi (ix2 q (r.castLE (by decide))) = P m c (f r) := by
  have ht : t.val < 98 := t.isLt
  obtain ⟨f, hf, hb⟩ := merge_block (D m c q) (P m c) t.val (fun j hj => hD q j (by omega))
    (fun j hj => word_le _ hx j (by omega)) (fun i hi j hj => word_inj _ hx i j (by omega) (by omega))
    (blockDist m c t) (blockWord m c t) bd bi q (blockDist_apply m c t q) (blockWord_apply m c t) hk
  refine ⟨f, hf, fun r => ?_⟩
  rw [keptValues_apply, keptWords_apply]
  exact hb r

include hD hx in
/-- After block `n`, before the last, the kernel keeps the five first of the columns so far. -/
theorem held_five (n : ℕ) (h : 0 + n < cfg0.N) (hn : n < 97) (q : Fin 1024) :
    ∃ f, Nearest m c q (1024 * (n + 1)) f
      ∧ ∀ r : Fin 5, (held m c n h).2.1 (ix2 q (r.castLE (by decide))) = D m c q (f r)
        ∧ (held m c n h).2.2 (ix2 q (r.castLE (by decide))) = P m c (f r) := by
  induction n with
  | zero =>
    have e := step_first m c ⟨0, h⟩ junk0 (Nat.zero_mod _) (by simp)
    obtain ⟨f, hf, hb⟩ := take_in m c hD hx ⟨0, h⟩ (fiveValues (k0_pay2 (F := Ideal))) (fiveWords k0_pay3) q
      (.inl ⟨rfl, fun r => by rw [fiveValues_apply, pay2_apply]⟩)
    refine ⟨f, hf, fun r => ?_⟩
    rw [held_zero m c h h, e]
    exact hb r
  | succ n ih =>
    obtain ⟨f, hf, hb⟩ := ih (Nat.lt_of_succ_lt h) (by omega)
    have h' : n + 1 < cfg0.N := by omega
    have e := step_mid m c ⟨n + 1, h'⟩ (held m c n (Nat.lt_of_succ_lt h)) (by simp only; omega) (by simp only; omega)
    obtain ⟨f', hf', hb'⟩ := take_in m c hD hx ⟨n + 1, h'⟩ (fiveValues (held m c n (Nat.lt_of_succ_lt h)).2.1)
      (fiveWords (held m c n (Nat.lt_of_succ_lt h)).2.2) q
      (.inr ⟨f, hf, fun r => by rw [fiveValues_apply, fiveWords_apply]; exact hb r⟩)
    refine ⟨f', hf', fun r => ?_⟩
    rw [held_succ m c n h h' (Nat.lt_of_succ_lt h), e]
    exact hb' r

include hD hx in
/-- The last block writes the shares of the labels of the five first columns. -/
theorem held_out (n : ℕ) (h : 0 + (n + 1) < cfg0.N) (hn : n + 1 = 97) (q : Fin 1024) : ∃ f, Nearest m c q 100352 f
    ∧ ∀ k : Fin 10, (held m c (n + 1) h).1 (ix2 q k) = share (fun t => label (m (c, Proc.tc.devRef main_arg2)) (f t)) k.val := by
  have h' : n + 1 < cfg0.N := by omega
  have h0 : 0 + n < cfg0.N := by omega
  obtain ⟨f, hf, hb⟩ := held_five m c hD hx n h0 (by omega) q
  have e := step_last m c ⟨n + 1, h'⟩ (held m c n h0) (by simp only; omega) (by simp only; omega)
  obtain ⟨f', hf', hb'⟩ := take_in m c hD hx ⟨n + 1, h'⟩ (fiveValues (held m c n h0).2.1)
    (fiveWords (held m c n h0).2.2) q (.inr ⟨f, hf, fun r => by rw [fiveValues_apply, fiveWords_apply]; exact hb r⟩)
  have hN : 1024 * (n + 1 + 1) = 100352 := by omega
  replace hf' : Nearest m c q 100352 f' := by simpa only [hN] using hf'
  refine ⟨f', hf', fun k => ?_⟩
  rw [held_succ m c n h h' h0, e, pay1_apply]
  refine congrArg (fun l => share l k.val) (funext fun t => ?_)
  rw [fiveWords_apply, (hb' t).2]
  exact word_and _ hx _ (hf'.2.1 t)

include hD hx in
/-- The same, named by the last position. -/
theorem held_end (k : ℕ) (h : 0 + k < cfg0.N) (hk : k = 97) (q : Fin 1024) : ∃ f, Nearest m c q 100352 f
    ∧ ∀ j : Fin 10, (held m c k h).1 (ix2 q j) = share (fun t => label (m (c, Proc.tc.devRef main_arg2)) (f t)) j.val := by
  obtain ⟨n, rfl⟩ : ∃ n, k = n + 1 := ⟨k - 1, by omega⟩
  exact held_out m c hD hx n h hk q

include hD hx in
/-- The kernel's result: the shares of the labels of the five first columns. -/
theorem result_apply (q : Fin 1024) : ∃ f, Nearest m c q 100352 f
    ∧ ∀ k : Fin 10, G7 m c (ix2 q k) = share (fun t => label (m (c, Proc.tc.devRef main_arg2)) (f t)) k.val := by
  have h97 : 0 + 97 < cfg0.N := lt_of_lt_of_eq (by decide) N_0.symm
  have e : G7 m c = (held m c 97 h97).1 := by
    unfold held
    exact G7_last m c
  rw [e]
  exact held_end m c hD hx 97 h97 rfl q

end Cert.KernelIdeal.Knn

end
-- ==== Proof.Equation.lean ====
/- THE EQUATION: the kernel's result and the reference's are one. The padded columns come after every training row, so the
   five first of all the columns are the five first of the training rows, which are the five the reference takes. -/
module

public import proofs.«01_k».proof.Proof.Dist
public import proofs.«01_k».proof.Proof.RefRead
public import proofs.«01_k».proof.Proof.Range
public import proofs.«01_k».proof.Proof.Sweep

@[expose] public section

set_option maxRecDepth 16384

noncomputable section

namespace Cert.KernelIdeal.Knn

open Idealize.ShloMosaic Idealize.ShloMosaic.TcCoe Cert.Knn Cert.Pre_in_range.Knn Cert.KernelIdeal.Value Idealize.SL.Sem

section Entries

variable (x0 : FVec Ideal S1024x16 .f32) (x1 : FVec Ideal S100000x16 .f32) (x2 : IVec S100000 32) (x3 x4 : FVec Ideal S16 .f32)

/-- Labels in range are labels. -/
theorem isLabels_of (h : InRange x0 x1 x2 x4) : IsLabels x2 := fun n => by
  unfold label
  split
  · exact h.label _
  · decide

/-- The label of a training row's column. -/
theorem label_row (a : Fin 100000) : label x2 a.val = x2 (ix1 a) := dif_pos a.isLt

/-- A column before the padding is a training row. -/
theorem column_row (n : ℕ) (hn : n < 100000) : column x1 n = fun d => x1 (ix2 ⟨n, hn⟩ d) :=
  funext fun _ => dif_pos hn

/-- A column of the padding is the far point. -/
theorem column_pad (n : ℕ) (hn : 100000 ≤ n) : column x1 n = fun _ => ((1000000 : ℝ) : EReal) :=
  funext fun _ => dif_neg (not_lt.2 hn)

/-- The kernel's distance from a column before the padding is the reference's from that training row. -/
theorem colDist_row (q : Fin 1024) (n : ℕ) (hn : n < 100000) :
    colDist x0 x1 x3 x4 q n = Cert.ReferenceIdeal.Knn.rowDist x0 x1 x3 x4 q ⟨n, hn⟩ := by
  unfold colDist Cert.ReferenceIdeal.Knn.rowDist
  rw [column_row x1 n hn]

/-- Every distance is below +∞. -/
theorem colDist_lt_top (h : InRange x0 x1 x2 x4) (q : Fin 1024) (n : ℕ) : colDist x0 x1 x3 x4 q n < ⊤ := by
  unfold colDist
  choose a ha _ using fun d : Fin 16 => h.query (ix2 q d)
  rw [funext ha]
  by_cases hn : n < 100000
  · rw [column_row x1 n hn]
    choose b hb _ using fun d : Fin 16 => h.row (ix2 ⟨n, hn⟩ d)
    rw [funext hb]
    exact dist_lt_top _ _ (fun d => h.scale _) a b
  · rw [column_pad x1 n (not_lt.1 hn)]
    exact dist_lt_top _ _ (fun d => h.scale _) a fun _ => 1000000

/-- A training row is no farther than the padding. -/
theorem colDist_le_pad (h : InRange x0 x1 x2 x4) (q : Fin 1024) (j i : ℕ) (hj : j < 100000) (hi : 100000 ≤ i) :
    colDist x0 x1 x3 x4 q j ≤ colDist x0 x1 x3 x4 q i := by
  unfold colDist
  choose a ha ha' using fun d : Fin 16 => h.query (ix2 q d)
  choose b hb hb' using fun d : Fin 16 => h.row (ix2 ⟨j, hj⟩ d)
  rw [funext ha, column_row x1 j hj, funext hb, column_pad x1 i hi]
  exact dist_le_pad _ _ (fun d => h.scale _) a b ha' hb'

/-- A position before another with no greater distance comes first. -/
theorem key_lt (hx : IsLabels x2) (u v : EReal) (huv : u ≤ v) (j i : ℕ) (hji : j < i) (hi : i < 100352) :
    key u (word x2 j) < key v (word x2 i) := by
  rcases lt_or_eq_of_le huv with e | e
  · exact Prod.Lex.toLex_lt_toLex.2 (Or.inl e)
  · exact Prod.Lex.toLex_lt_toLex.2 (Or.inr ⟨e, word_lt x2 hx j i hji hi⟩)

/-- The reference's five training rows are the five first in the kernel's order. -/
theorem nearest_first (hx : IsLabels x2) (q : Fin 1024) :
    First5 (fun j => key (colDist x0 x1 x3 x4 q j) (word x2 j)) 100000
      fun t => (Cert.ReferenceIdeal.Knn.nearest x0 x1 x3 x4 q t).val := by
  unfold Cert.ReferenceIdeal.Knn.nearest
  refine first5_sorted (n := 100000) (by omega) (Cert.ReferenceIdeal.Knn.rowDist x0 x1 x3 x4 q)
    (fun j => key (colDist x0 x1 x3 x4 q j) (word x2 j)) fun a b hab => ?_
  have ha := a.isLt
  have hb := b.isLt
  show key (colDist x0 x1 x3 x4 q a.val) (word x2 a.val) < key (colDist x0 x1 x3 x4 q b.val) (word x2 b.val)
  rw [colDist_row x0 x1 x3 x4 q a.val ha, colDist_row x0 x1 x3 x4 q b.val hb]
  rcases Prod.Lex.toLex_lt_toLex.1 hab with e | ⟨e, e'⟩
  · exact Prod.Lex.toLex_lt_toLex.2 (Or.inl e)
  · exact key_lt x2 hx _ _ (le_of_eq e) a.val b.val e' (by omega)

end Entries

variable (m : (ℓ : Loc nD τ sig) → Buf (Elt Ideal) ℓ) (c : Dev nD)

/-- THE EQUATION. -/
theorem result_eq
    (h : InRange (m (c, Proc.tc.devRef main_arg0)) (m (c, Proc.tc.devRef main_arg1)) (m (c, Proc.tc.devRef main_arg2))
      (m (c, Proc.tc.devRef main_arg4))) :
    Cert.ReferenceIdeal.Read.val_main_v31 (F := Ideal) (m (c, Proc.tc.devRef main_arg0)) (m (c, Proc.tc.devRef main_arg1))
      (m (c, Proc.tc.devRef main_arg2)) (m (c, Proc.tc.devRef main_arg3)) (m (c, Proc.tc.devRef main_arg4)) = G7 m c := by
  funext i
  obtain ⟨q, k, rfl⟩ : ∃ (q : Fin 1024) (k : Fin 10), i = ix2 q k := ⟨_, _, eq_ix2 i⟩
  have hx := isLabels_of _ _ _ _ h
  obtain ⟨f, hf, hk⟩ := result_apply m c (fun q j _ => colDist_lt_top _ _ _ _ _ h q j) hx q
  rw [hk k, Cert.ReferenceIdeal.Knn.result_apply]
  have hf' := First5.restrict hf (N := 100000) (by omega) (by omega) fun j hj i hi hji =>
    key_lt _ hx _ _ (colDist_le_pad _ _ _ _ _ h q j i hj hji) j i (by omega) hi
  have hs := (nearest_first (m (c, Proc.tc.devRef main_arg0)) (m (c, Proc.tc.devRef main_arg1)) (m (c, Proc.tc.devRef main_arg2))
    (m (c, Proc.tc.devRef main_arg3)) (m (c, Proc.tc.devRef main_arg4)) hx q).sum_eq hf'
    fun j => vote (label (m (c, Proc.tc.devRef main_arg2)) j) k.val
  unfold share
  rw [← hs]
  refine congrArg (fun s => Ideal.div s ((5 : ℝ) : EReal)) (Finset.sum_congr rfl fun t _ => ?_)
  exact congrArg (fun l => vote l k.val) (label_row _ _).symm

end Cert.KernelIdeal.Knn

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_in_range
public import proofs.«01_k».proof.Proof.Gen.ReferenceIdeal.Run
public import proofs.«01_k».proof.Proof.RefRead
public import proofs.«01_k».proof.Proof.Equation
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference leaves its arguments and its counters as they were. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, from arguments in range. -/
theorem quiescent_ReferenceIdeal_pre_in_range : quiescent_ReferenceIdeal_pre_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments in range, the kernel and the reference compute one result. -/
theorem algebraic_KernelIdeal_ReferenceIdeal_pre_in_range : algebraic_KernelIdeal_ReferenceIdeal_pre_in_range := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨e0, e1, e2, e3, e4⟩ := hagree c
  rw [Cert.ReferenceIdeal.Read.val_main_v31_eq, e0, e1, e2, e3, e4]
  exact Cert.KernelIdeal.Knn.result_eq m c (Cert.Pre_in_range.Knn.inRange_of _ _ _ _ _ (hpre c))

/-- All the claims. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_in_range, (trivial : preserves_Kernel_KernelIdeal),
  algebraic_KernelIdeal_ReferenceIdeal_pre_in_range⟩

end Cert.Proof

end
